-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x4096 : Shape := ⟨2, ![8192, 4096]⟩
abbrev S1024x4096 : Shape := ⟨2, ![1024, 4096]⟩
abbrev S8x1024x1024 : Shape := ⟨3, ![8, 1024, 1024]⟩
abbrev S7x1024x1024 : Shape := ⟨3, ![7, 1024, 1024]⟩
abbrev S2x512x1024 : Shape := ⟨3, ![2, 512, 1024]⟩
abbrev S2x1024x1024 : Shape := ⟨3, ![2, 1024, 1024]⟩
abbrev S8 : Shape := ⟨1, ![8]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .local _ .vmem, ⟨0, _⟩ => ⟨S1024x4096, .f32⟩
  | .local _ .vmem, ⟨1, _⟩ => ⟨S8x1024x1024, .bf16⟩
  | .local _ .vmem, ⟨2, _⟩ => ⟨S7x1024x1024, .bf16⟩
  | .local _ .vmem, ⟨3, _⟩ => ⟨S2x512x1024, .f32⟩
  | .local _ .vmem, ⟨4, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1_i32_12 : BitVec 32 := 1#32
  let v36 : BitVec 32 := Scalar.muli v28 c1_i32_12
  let v37 : BitVec 32 := Scalar.addi c0_i32_13 v36
  v37.toNat
def k0_dev2 (d0 : Dev nD) : Nat :=
  let c0_i32_16 : BitVec 32 := 0#32
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1_i32_15 : BitVec 32 := 1#32
  let v38 : BitVec 32 := Scalar.muli v29 c1_i32_15
  let v39 : BitVec 32 := Scalar.addi c0_i32_16 v38
  v39.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1_i32_18 : BitVec 32 := 1#32
  let v40 : BitVec 32 := Scalar.muli v30 c1_i32_18
  let v41 : BitVec 32 := Scalar.addi c0_i32_19 v40
  v41.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1_i32_21 : BitVec 32 := 1#32
  let v42 : BitVec 32 := Scalar.muli v31 c1_i32_21
  let v43 : BitVec 32 := Scalar.addi c0_i32_22 v42
  v43.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1_i32_24 : BitVec 32 := 1#32
  let v44 : BitVec 32 := Scalar.muli v32 c1_i32_24
  let v45 : BitVec 32 := Scalar.addi c0_i32_25 v44
  v45.toNat
def k0_dev6 (d0 : Dev nD) : Nat :=
  let c0_i32_28 : BitVec 32 := 0#32
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1_i32_27 : BitVec 32 := 1#32
  let v46 : BitVec 32 := Scalar.muli v33 c1_i32_27
  let v47 : BitVec 32 := Scalar.addi c0_i32_28 v46
  v47.toNat
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1_i32_30 : BitVec 32 := 1#32
  let v48 : BitVec 32 := Scalar.muli v34 c1_i32_30
  let v49 : BitVec 32 := Scalar.addi c0_i32_31 v48
  v49.toNat
def k0_off1 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1024_i32 : BitVec 32 := 1024#32
  let v50 : BitVec 32 := Scalar.muli v34 c1024_i32
  let v51 : BitVec 32 := Scalar.addi v50 c0_i32_32
  let c0_i32_37 : BitVec 32 := 0#32
  ![v51.toNat, 0]
def k0_off2 (d0 : Dev nD) (c0_i32_54 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1024_i32_53 : BitVec 32 := 1024#32
  let v75 : BitVec 32 := Scalar.muli v28 c1024_i32_53
  let v76 : BitVec 32 := Scalar.addi v75 c0_i32_54
  let c0_i32_59 : BitVec 32 := 0#32
  ![v76.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1_i32_79 : BitVec 32 := 1#32
  let v100 : BitVec 32 := Scalar.muli v34 c1_i32_79
  let v101 : BitVec 32 := Scalar.addi c0_i32_80 v100
  v101.toNat
def k0_off3 (d0 : Dev nD) (c0_i32_97 : BitVec 32) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1024_i32_96 : BitVec 32 := 1024#32
  let v121 : BitVec 32 := Scalar.muli v29 c1024_i32_96
  let v122 : BitVec 32 := Scalar.addi v121 c0_i32_97
  let c0_i32_102 : BitVec 32 := 0#32
  ![v122.toNat, 0]
def k0_dev9 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1_i32_125 : BitVec 32 := 1#32
  let v146 : BitVec 32 := Scalar.muli v28 c1_i32_125
  let v147 : BitVec 32 := Scalar.addi c0_i32_126 v146
  v147.toNat
def k0_off4 (d0 : Dev nD) (c0_i32_143 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1024_i32_142 : BitVec 32 := 1024#32
  let v167 : BitVec 32 := Scalar.muli v30 c1024_i32_142
  let v168 : BitVec 32 := Scalar.addi v167 c0_i32_143
  let c0_i32_148 : BitVec 32 := 0#32
  ![v168.toNat, 0]
def k0_dev10 (d0 : Dev nD) : Nat :=
  let c0_i32_172 : BitVec 32 := 0#32
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1_i32_171 : BitVec 32 := 1#32
  let v192 : BitVec 32 := Scalar.muli v29 c1_i32_171
  let v193 : BitVec 32 := Scalar.addi c0_i32_172 v192
  v193.toNat
def k0_off5 (d0 : Dev nD) (c0_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1024_i32_187 : BitVec 32 := 1024#32
  let v213 : BitVec 32 := Scalar.muli v31 c1024_i32_187
  let v214 : BitVec 32 := Scalar.addi v213 c0_i32_188
  let c0_i32_193 : BitVec 32 := 0#32
  ![v214.toNat, 0]
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1_i32_216 : BitVec 32 := 1#32
  let v238 : BitVec 32 := Scalar.muli v30 c1_i32_216
  let v239 : BitVec 32 := Scalar.addi c0_i32_217 v238
  v239.toNat
def k0_off6 (d0 : Dev nD) (c0_i32_233 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1024_i32_232 : BitVec 32 := 1024#32
  let v259 : BitVec 32 := Scalar.muli v32 c1024_i32_232
  let v260 : BitVec 32 := Scalar.addi v259 c0_i32_233
  let c0_i32_238 : BitVec 32 := 0#32
  ![v260.toNat, 0]
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1_i32_261 : BitVec 32 := 1#32
  let v284 : BitVec 32 := Scalar.muli v31 c1_i32_261
  let v285 : BitVec 32 := Scalar.addi c0_i32_262 v284
  v285.toNat
def k0_off7 (d0 : Dev nD) (c0_i32_278 : BitVec 32) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1024_i32_277 : BitVec 32 := 1024#32
  let v305 : BitVec 32 := Scalar.muli v33 c1024_i32_277
  let v306 : BitVec 32 := Scalar.addi v305 c0_i32_278
  let c0_i32_283 : BitVec 32 := 0#32
  ![v306.toNat, 0]
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1_i32_305 : BitVec 32 := 1#32
  let v330 : BitVec 32 := Scalar.muli v32 c1_i32_305
  let v331 : BitVec 32 := Scalar.addi c0_i32_306 v330
  v331.toNat
def k0_off8 (d0 : Dev nD) (c0_i32_322 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_321 : BitVec 32 := 1024#32
  let v351 : BitVec 32 := Scalar.muli v2 c1024_i32_321
  let v352 : BitVec 32 := Scalar.addi v351 c0_i32_322
  let c0_i32_327 : BitVec 32 := 0#32
  ![v352.toNat, 0]
def k0_dev14 (d0 : Dev nD) : Nat :=
  let c0_i32_351 : BitVec 32 := 0#32
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1_i32_350 : BitVec 32 := 1#32
  let v376 : BitVec 32 := Scalar.muli v33 c1_i32_350
  let v377 : BitVec 32 := Scalar.addi c0_i32_351 v376
  v377.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_378 : BitVec 32 := 1024#32
  let v408 : BitVec 32 := Scalar.muli v2 c1024_i32_378
  let c0_i32_383 : BitVec 32 := 0#32
  ![v408.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_384 : BitVec 32 := 1024#32
  let v414 : BitVec 32 := Scalar.muli v2 c1024_i32_384
  let c1024_i32_389 : BitVec 32 := 1024#32
  ![v414.toNat, 1024]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_403 : BitVec 32 := 1024#32
  let v432 : BitVec 32 := Scalar.muli v2 c1024_i32_403
  let c2048_i32 : BitVec 32 := 2048#32
  ![v432.toNat, 2048]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_421 : BitVec 32 := 1024#32
  let v450 : BitVec 32 := Scalar.muli v2 c1024_i32_421
  let c3072_i32 : BitVec 32 := 3072#32
  ![v450.toNat, 3072]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1024_i32_439 : BitVec 32 := 1024#32
  let v468 : BitVec 32 := Scalar.muli v28 c1024_i32_439
  let c0_i32_444 : BitVec 32 := 0#32
  ![v468.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1024_i32_458 : BitVec 32 := 1024#32
  let v486 : BitVec 32 := Scalar.muli v28 c1024_i32_458
  let c1024_i32_463 : BitVec 32 := 1024#32
  ![v486.toNat, 1024]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1024_i32_490 : BitVec 32 := 1024#32
  let v515 : BitVec 32 := Scalar.muli v28 c1024_i32_490
  let c2048_i32_495 : BitVec 32 := 2048#32
  ![v515.toNat, 2048]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v28 : BitVec 32 := Scalar.addi v21 v25
  let c1024_i32_512 : BitVec 32 := 1024#32
  let v536 : BitVec 32 := Scalar.muli v28 c1024_i32_512
  let c3072_i32_517 : BitVec 32 := 3072#32
  ![v536.toNat, 3072]
def k0_off17 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1024_i32_534 : BitVec 32 := 1024#32
  let v557 : BitVec 32 := Scalar.muli v29 c1024_i32_534
  let c0_i32_539 : BitVec 32 := 0#32
  ![v557.toNat, 0]
def k0_off18 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1024_i32_556 : BitVec 32 := 1024#32
  let v578 : BitVec 32 := Scalar.muli v29 c1024_i32_556
  let c1024_i32_561 : BitVec 32 := 1024#32
  ![v578.toNat, 1024]
def k0_off19 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1024_i32_588 : BitVec 32 := 1024#32
  let v607 : BitVec 32 := Scalar.muli v29 c1024_i32_588
  let c2048_i32_593 : BitVec 32 := 2048#32
  ![v607.toNat, 2048]
def k0_off20 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v29 : BitVec 32 := Scalar.addi v22 v25
  let c1024_i32_610 : BitVec 32 := 1024#32
  let v628 : BitVec 32 := Scalar.muli v29 c1024_i32_610
  let c3072_i32_615 : BitVec 32 := 3072#32
  ![v628.toNat, 3072]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1024_i32_632 : BitVec 32 := 1024#32
  let v649 : BitVec 32 := Scalar.muli v30 c1024_i32_632
  let c0_i32_637 : BitVec 32 := 0#32
  ![v649.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1024_i32_654 : BitVec 32 := 1024#32
  let v670 : BitVec 32 := Scalar.muli v30 c1024_i32_654
  let c1024_i32_659 : BitVec 32 := 1024#32
  ![v670.toNat, 1024]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1024_i32_686 : BitVec 32 := 1024#32
  let v699 : BitVec 32 := Scalar.muli v30 c1024_i32_686
  let c2048_i32_691 : BitVec 32 := 2048#32
  ![v699.toNat, 2048]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v30 : BitVec 32 := Scalar.addi v3 v27
  let c1024_i32_708 : BitVec 32 := 1024#32
  let v720 : BitVec 32 := Scalar.muli v30 c1024_i32_708
  let c3072_i32_713 : BitVec 32 := 3072#32
  ![v720.toNat, 3072]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1024_i32_730 : BitVec 32 := 1024#32
  let v741 : BitVec 32 := Scalar.muli v31 c1024_i32_730
  let c0_i32_735 : BitVec 32 := 0#32
  ![v741.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1024_i32_752 : BitVec 32 := 1024#32
  let v762 : BitVec 32 := Scalar.muli v31 c1024_i32_752
  let c1024_i32_757 : BitVec 32 := 1024#32
  ![v762.toNat, 1024]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1024_i32_784 : BitVec 32 := 1024#32
  let v791 : BitVec 32 := Scalar.muli v31 c1024_i32_784
  let c2048_i32_789 : BitVec 32 := 2048#32
  ![v791.toNat, 2048]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_8 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_8 v20
  let v31 : BitVec 32 := Scalar.addi v24 v25
  let c1024_i32_806 : BitVec 32 := 1024#32
  let v812 : BitVec 32 := Scalar.muli v31 c1024_i32_806
  let c3072_i32_811 : BitVec 32 := 3072#32
  ![v812.toNat, 3072]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1024_i32_828 : BitVec 32 := 1024#32
  let v833 : BitVec 32 := Scalar.muli v32 c1024_i32_828
  let c0_i32_833 : BitVec 32 := 0#32
  ![v833.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1024_i32_850 : BitVec 32 := 1024#32
  let v854 : BitVec 32 := Scalar.muli v32 c1024_i32_850
  let c1024_i32_855 : BitVec 32 := 1024#32
  ![v854.toNat, 1024]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1024_i32_882 : BitVec 32 := 1024#32
  let v883 : BitVec 32 := Scalar.muli v32 c1024_i32_882
  let c2048_i32_887 : BitVec 32 := 2048#32
  ![v883.toNat, 2048]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.xori v3 c1_i32_6
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v32 : BitVec 32 := Scalar.addi v21 v27
  let c1024_i32_904 : BitVec 32 := 1024#32
  let v904 : BitVec 32 := Scalar.muli v32 c1024_i32_904
  let c3072_i32_909 : BitVec 32 := 3072#32
  ![v904.toNat, 3072]
def k0_off33 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1024_i32_926 : BitVec 32 := 1024#32
  let v925 : BitVec 32 := Scalar.muli v33 c1024_i32_926
  let c0_i32_931 : BitVec 32 := 0#32
  ![v925.toNat, 0]
def k0_off34 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1024_i32_948 : BitVec 32 := 1024#32
  let v946 : BitVec 32 := Scalar.muli v33 c1024_i32_948
  let c1024_i32_953 : BitVec 32 := 1024#32
  ![v946.toNat, 1024]
def k0_off35 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1024_i32_980 : BitVec 32 := 1024#32
  let v975 : BitVec 32 := Scalar.muli v33 c1024_i32_980
  let c2048_i32_985 : BitVec 32 := 2048#32
  ![v975.toNat, 2048]
def k0_off36 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v22 : BitVec 32 := Scalar.subi c3_i32 v3
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v33 : BitVec 32 := Scalar.addi v22 v27
  let c1024_i32_1002 : BitVec 32 := 1024#32
  let v996 : BitVec 32 := Scalar.muli v33 c1024_i32_1002
  let c3072_i32_1007 : BitVec 32 := 3072#32
  ![v996.toNat, 3072]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1024_i32_1024 : BitVec 32 := 1024#32
  let v1017 : BitVec 32 := Scalar.muli v34 c1024_i32_1024
  let c0_i32_1029 : BitVec 32 := 0#32
  ![v1017.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1024_i32_1046 : BitVec 32 := 1024#32
  let v1038 : BitVec 32 := Scalar.muli v34 c1024_i32_1046
  let c1024_i32_1051 : BitVec 32 := 1024#32
  ![v1038.toNat, 1024]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1024_i32_1077 : BitVec 32 := 1024#32
  let v1067 : BitVec 32 := Scalar.muli v34 c1024_i32_1077
  let c2048_i32_1082 : BitVec 32 := 2048#32
  ![v1067.toNat, 2048]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v23 : BitVec 32 := Scalar.addi v3 c2_i32
  let c4_i32_7 : BitVec 32 := 4#32
  let v24 : BitVec 32 := Scalar.remsi v23 c4_i32_7
  let c4_i32_10 : BitVec 32 := 4#32
  let c1_i32_9 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v26 : BitVec 32 := Scalar.subi c1_i32_9 v20
  let v27 : BitVec 32 := Scalar.muli c4_i32_10 v26
  let v34 : BitVec 32 := Scalar.addi v24 v27
  let c1024_i32_1099 : BitVec 32 := 1024#32
  let v1088 : BitVec 32 := Scalar.muli v34 c1024_i32_1099
  let c3072_i32_1104 : BitVec 32 := 3072#32
  ![v1088.toNat, 3072]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdx
public import Idealize.ShloMosaic.Lib.ValueLayout
public import Idealize.ShloMosaic.Lib.Tactic

@[expose] public section

noncomputable section

/-! The mesh of the exchange: who sends to whom, the cells and memory slabs of a transfer, and what the buffers hold. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Partners -/

/-- The mask by which slot `t` pairs the devices. -/
def mask : Fin 8 → ℕ := ![0, 1, 3, 4, 2, 5, 7, 6]

theorem xor_lt (t : Fin 8) (c : Dev nD) : c.val ^^^ mask t < nD := by revert t c; decide +kernel

set_option backward.proofsInPublic true in
/-- The device paired with `c` by slot `t` (slot 0: itself). -/
def peer (t : Fin 8) (c : Dev nD) : Dev nD := ⟨c.val ^^^ mask t, xor_lt t c⟩

theorem peer_peer (t : Fin 8) (c : Dev nD) : peer t (peer t c) = c := by revert t c; decide +kernel
theorem peer_zero (c : Dev nD) : peer 0 c = c := by revert c; decide +kernel
theorem peer_inj_left (c : Dev nD) : Function.Injective fun t => peer t c := by
  intro t t' h; revert c t t'; decide +kernel

/-- A slot's pairing as a permutation of the devices. -/
def pairing (t : Fin 8) : Dev nD ≃ Dev nD := ⟨peer t, peer t, peer_peer t, peer_peer t⟩
/-- All slots of one device, as an enumeration of the devices. -/
def around (c : Dev nD) : Fin 8 ≃ Dev nD :=
  Equiv.ofBijective (fun t => peer t c) ((Fintype.bijective_iff_injective_and_card _).mpr ⟨peer_inj_left c, rfl⟩)

theorem dev1_eq (c : Dev nD) : (⟨k0_dev1 c, k0_dev1_lt c⟩ : Dev nD) = peer 1 c := by revert c; decide +kernel
theorem dev2_eq (c : Dev nD) : (⟨k0_dev2 c, k0_dev2_lt c⟩ : Dev nD) = peer 2 c := by revert c; decide +kernel
theorem dev3_eq (c : Dev nD) : (⟨k0_dev3 c, k0_dev3_lt c⟩ : Dev nD) = peer 3 c := by revert c; decide +kernel
theorem dev4_eq (c : Dev nD) : (⟨k0_dev4 c, k0_dev4_lt c⟩ : Dev nD) = peer 4 c := by revert c; decide +kernel
theorem dev5_eq (c : Dev nD) : (⟨k0_dev5 c, k0_dev5_lt c⟩ : Dev nD) = peer 5 c := by revert c; decide +kernel
theorem dev6_eq (c : Dev nD) : (⟨k0_dev6 c, k0_dev6_lt c⟩ : Dev nD) = peer 6 c := by revert c; decide +kernel
theorem dev7_eq (c : Dev nD) : (⟨k0_dev7 c, k0_dev7_lt c⟩ : Dev nD) = peer 7 c := by revert c; decide +kernel
theorem dev8_eq (c : Dev nD) : (⟨k0_dev8 c, k0_dev8_lt c⟩ : Dev nD) = peer 7 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 4 c := by revert c; decide +kernel
theorem dev13_eq (c : Dev nD) : (⟨k0_dev13 c, k0_dev13_lt c⟩ : Dev nD) = peer 5 c := by revert c; decide +kernel
theorem dev14_eq (c : Dev nD) : (⟨k0_dev14 c, k0_dev14_lt c⟩ : Dev nD) = peer 6 c := by revert c; decide +kernel

/-! ## Cells -/

/-- The runtime's barrier semaphore. -/
abbrev barS : Sem sig := (SemArray.scalar (sig.barrier 0 rfl) : Sems sig S_).sem
/-- The send and the receive semaphore of slot `j + 1`. -/
abbrev sndS (j : Fin 7) : DmaSem sig := ⟨2 + j.val, Nat.lt_of_lt_of_le (Nat.add_lt_add_left j.isLt 2) (by decide)⟩
abbrev rcvS (j : Fin 7) : DmaSem sig := ⟨10 + j.val, Nat.lt_of_lt_of_le (Nat.add_lt_add_left j.isLt 10) (by decide)⟩

abbrev barCell (c : Dev nD) : GSem nD τ sig := ((c : Thread nD τ), .reg barS)
abbrev sndCell (c : Dev nD) (j : Fin 7) : GSem nD τ sig := ((c : Thread nD τ), .dma (sndS j))
abbrev rcvCell (c : Dev nD) (j : Fin 7) : GSem nD τ sig := ((c : Thread nD τ), .dma (rcvS j))

/-! ## Slabs -/

theorem comm_inb (t : ℕ) (h : t < 8) : ∀ a, (![t, 0, 0] : Fin 3 → Nat) a + S1x1024x1024.size a ≤ S8x1024x1024.size a := by
  intro a; fin_cases a
  · exact h
  · exact Nat.le_of_eq rfl
  · exact Nat.le_of_eq rfl
theorem sbuf_inb (t : ℕ) (h : t < 7) : ∀ a, (![t, 0, 0] : Fin 3 → Nat) a + S1x1024x1024.size a ≤ S7x1024x1024.size a := by
  intro a; fin_cases a
  · exact h
  · exact Nat.le_of_eq rfl
  · exact Nat.le_of_eq rfl

/-- Slab `t` of the receive buffer, slab `t` of the send buffer. -/
abbrev commM (t : ℕ) (h : t < 8) : Memref sig .tc .vmem S1024x1024 .bf16 :=
  ((Memref.whole cc0_scratch0 : Memref sig .tc .vmem S8x1024x1024 .bf16).slice (Rect.unit (s := S8x1024x1024) ![t, 0, 0] S1x1024x1024.size (comm_inb t h)) (fun _ => rfl)).squeeze S1024x1024 squeezes_S1x1024x1024_S1024x1024
abbrev sbufM (t : ℕ) (h : t < 7) : Memref sig .tc .vmem S1024x1024 .bf16 :=
  ((Memref.whole cc0_scratch1 : Memref sig .tc .vmem S7x1024x1024 .bf16).slice (Rect.unit (s := S7x1024x1024) ![t, 0, 0] S1x1024x1024.size (sbuf_inb t h)) (fun _ => rfl)).squeeze S1024x1024 squeezes_S1x1024x1024_S1024x1024

theorem comm_emb (t : ℕ) (h : t < 8) (r k : Fin 1024) :
    (commM t h).view.emb (ix2 r k) = (ix3 (⟨t, h⟩ : Fin 8) r k : S8x1024x1024.Idx) := by
  show (Rect.unit (s := S8x1024x1024) ![t, 0, 0] S1x1024x1024.size (comm_inb t h)).emb (Shape.reshapeEquiv _ (ix2 r k)) = _
  rw [show Shape.reshapeEquiv _ (ix2 r k) = ix3 (0 : Fin 1) r k from reshapeEquiv_ix2_1ab _ r k]
  funext a; apply Fin.ext
  fin_cases a
  · show t + 1 * 0 = t; omega
  · show 0 + 1 * r.val = r.val; omega
  · show 0 + 1 * k.val = k.val; omega
theorem sbuf_emb (t : ℕ) (h : t < 7) (r k : Fin 1024) :
    (sbufM t h).view.emb (ix2 r k) = (ix3 (⟨t, h⟩ : Fin 7) r k : S7x1024x1024.Idx) := by
  show (Rect.unit (s := S7x1024x1024) ![t, 0, 0] S1x1024x1024.size (sbuf_inb t h)).emb (Shape.reshapeEquiv _ (ix2 r k)) = _
  rw [show Shape.reshapeEquiv _ (ix2 r k) = ix3 (0 : Fin 1) r k from reshapeEquiv_ix2_1ab _ r k]
  funext a; apply Fin.ext
  fin_cases a
  · show t + 1 * 0 = t; omega
  · show 0 + 1 * r.val = r.val; omega
  · show 0 + 1 * k.val = k.val; omega

abbrev N : ℕ := (commM 0 (by decide)).view.dmaCredit
theorem N_pos : 0 < N := View.dmaCredit_pos _ (by decide)

theorem comm_credit (t : ℕ) (h : t < 8) : (commM t h).view.dmaCredit = N := rfl

end Cert.KernelIdeal.Exch

end
-- ==== Proof.Sched.lean ====
module

public import proofs.«01_k».proof.Proof.Mesh

@[expose] public section

noncomputable section

/-! What the buffers hold, the schedule of the exchange's cells, and what a device owes. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The exchange's ghost state over the cells, duties named by slots; beside it the pipeline's own and the local transfers'. -/
abbrev UB : Type := URounds (GSem nD τ sig) (Fin 7)
abbrev UU : Type := UR sig nD τ × (UB × Counters)

local notation "𝕄" => MT nD τ sig Bool (Elt F) ℕ UU ℕ

abbrev EP : Emb (UR sig nD τ) (MT nD τ sig Bool (Elt F) ℕ UU ℕ) := embL
abbrev EBC : Emb (UB × Counters) (MT nD τ sig Bool (Elt F) ℕ UU ℕ) := embR
abbrev ER : Emb UB (MT nD τ sig Bool (Elt F) ℕ UU ℕ) := (Emb.inl : Emb UB (UB × Counters)).trans EBC

instance ER_landsIn : (ER (F := F)).LandsIn (upEmb : UEmb _ 𝕄) := inferInstance

/-! ## Contents -/

variable (m : (ℓ : Loc nD τ sig) → Buf (Elt F) ℓ)

/-- Device `c`'s arguments. -/
def xAt (c : Dev nD) : S8192x1024.Idx → F .f32 := m ((c : Thread nD τ).loc main_arg0)
def wAt (c : Dev nD) : S8192x4096.Idx → F .f32 := m ((c : Thread nD τ).loc main_arg1)

theorem row_lt (d : Dev nD) (r : Fin 1024) : 1024 * d.val + r.val < 8192 := by
  have h1 := d.isLt; have h2 := r.isLt
  have h3 : nD = 8 := rfl
  omega
/-- Row `r` of device `d`'s band of 1024 rows. -/
def row (d : Dev nD) (r : Fin 1024) : Fin 8192 := ⟨1024 * d.val + r.val, row_lt d r⟩

/-- Device `s`'s `x` at row `r` of device `d`'s band, rounded. -/
def castX (s d : Dev nD) (r k : Fin 1024) : F .bf16 := FloatOps.truncf .bf16 bitsLt_bf16_f32 (xAt m s (ix2 (row d r) k))

/-- The send buffer once filled: slab `j` the band of the slot's partner. -/
def sendAt (c : Dev nD) : (cc0_scratch1 : Ref sig .tc).ty.Contents (Elt F) :=
  fun i : S7x1024x1024.Idx => castX m c (peer (Fin.succ (i 0)) c) (i 1) (i 2)
/-- The receive buffer once filled: slab `t` the slot partner's rows of this device's band. -/
def commAt (c : Dev nD) : (cc0_scratch0 : Ref sig .tc).ty.Contents (Elt F) :=
  fun i : S8x1024x1024.Idx => castX m (peer (i 0) c) c (i 1) (i 2)

def commPts (c : Dev nD) (t : ℕ) (h : t < 8) (f : (cc0_scratch0 : Ref sig .tc).ty.Contents (Elt F)) : sProp 𝕄 :=
  (commM t h).view.loc (c : Thread nD τ) ↦[(commM t h).view.set]{fullShare} f
def sbufPts (c : Dev nD) (t : ℕ) (h : t < 7) (f : (cc0_scratch1 : Ref sig .tc).ty.Contents (Elt F)) : sProp 𝕄 :=
  (sbufM t h).view.loc (c : Thread nD τ) ↦[(sbufM t h).view.set]{fullShare} f

omit [FloatOps F] in
instance commPts_storable (c : Dev nD) (t h f) : BI.Storable (upEmb : UEmb _ 𝕄) (commPts (F := F) c t h f) := by unfold commPts; infer_instance
omit [FloatOps F] in
instance sbufPts_storable (c : Dev nD) (t h f) : BI.Storable (upEmb : UEmb _ 𝕄) (sbufPts (F := F) c t h f) := by unfold sbufPts; infer_instance

theorem succ_lt (j : Fin 7) : j.val + 1 < 8 := Nat.succ_lt_succ j.isLt

/-- Slab `j` of the send buffer, landed in slab `j + 1` of the slot partner's receive buffer, is that slab filled. -/
theorem landed (c : Dev nD) (j : Fin 7) (fd : (cc0_scratch0 : Ref sig .tc).ty.Contents (Elt F)) :
    ((commM (j.val + 1) (succ_lt j)).view.loc (peer j.succ c : Thread nD τ) ↦[(commM (j.val + 1) (succ_lt j)).view.set]{fullShare}
        (commM (j.val + 1) (succ_lt j)).view.write (Elt F) fd ((sbufM j.val j.isLt).view.read (Elt F) (sendAt m c)) Finset.univ : sProp 𝕄)
      ⊢ commPts (peer j.succ c) (j.val + 1) (succ_lt j) (commAt m (peer j.succ c)) := by
  unfold commPts
  refine Entails.of_eq (pointsTo_congr ?_)
  intro e he
  obtain ⟨x, -, rfl⟩ := Finset.mem_map.mp he
  rw [View.write_emb_of_mem _ _ (Finset.mem_univ x), View.read_apply]
  obtain ⟨r, k, rfl⟩ : ∃ r k : Fin 1024, x = ix2 r k := ⟨x 0, x 1, by funext a; fin_cases a <;> rfl⟩
  show sendAt m c ((sbufM j.val j.isLt).view.emb (ix2 r k)) = commAt m (peer j.succ c) ((commM (j.val + 1) (succ_lt j)).view.emb (ix2 r k))
  rw [comm_emb, sbuf_emb]
  show castX m c (peer j.succ c) r k = castX m (peer j.succ (peer j.succ c)) (peer j.succ c) r k
  rw [peer_peer]

/-! ## The schedule -/

/-- What a partner's signal hands over: its own slab for this slot, to be written. -/
def barPay (c : Dev nD) (d : Fin 7) : sProp 𝕄 := iprop(∃ f, commPts (peer d.succ c) (d.val + 1) (succ_lt d) f)
/-- What a transfer's arrival hands the receiver, and its departure the sender. -/
def rcvPay (c : Dev nD) (j : Fin 7) : sProp 𝕄 := commPts c (j.val + 1) (succ_lt j) (commAt m c)
def sndPay (c : Dev nD) (j : Fin 7) : sProp 𝕄 := iprop(∃ f, sbufPts (F := F) c j.val j.isLt f)

/-- A DMA semaphore's role: the receive or the send semaphore of a slot, or neither. -/
def role : SemLoc sig → Option (Bool × Fin 7)
  | .reg _ => none
  | .dma q => if h : 10 ≤ q.val ∧ q.val < 17 then some (true, ⟨q.val - 10, by omega⟩)
      else if h : 2 ≤ q.val ∧ q.val < 9 then some (false, ⟨q.val - 2, by omega⟩) else none

theorem role_rcv (j : Fin 7) : role (.dma (rcvS j)) = some (true, j) := by revert j; decide
theorem role_snd (j : Fin 7) : role (.dma (sndS j)) = some (false, j) := by revert j; decide
theorem role_bar : role (.reg barS) = none := rfl
theorem dma_ne_bar (q : DmaSem sig) : (SemLoc.dma q : SemLoc sig) ≠ .reg barS := fun h => by cases h

/-- One round: a barrier cell has a duty of one unit per slot, a transfer's cell one duty of a slab's credit. -/
def exRd : Rounds.Schedule (GSem nD τ sig) (Fin 7) 𝕄 where
  duties g r := if r = 0 ∧ g.1.2 = .tc then (if g.2 = .reg barS then Finset.univ else if (role g.2).isSome then {0} else ∅) else ∅
  unitless _ := False
  amount g _ _ := if g.2 = .reg barS then 1 else N
  payload g _ d :=
    if g.2 = .reg barS then barPay g.1.1 d
    else match role g.2 with
      | some (true, j) => rcvPay m g.1.1 j
      | some (false, j) => sndPay g.1.1 j
      | none => iprop(emp)
  amount_pos g _ _ _ := by
    by_cases h : g.2 = .reg barS
    · rw [if_pos h]; exact Nat.one_pos
    · rw [if_neg h]; exact N_pos

instance exRd_payload_storable (g : GSem nD τ sig) (r : ℕ) (d : Fin 7) :
    BI.Storable (upEmb : UEmb _ 𝕄) ((exRd (F := F) m).payload g r d) := by
  show BI.Storable upEmb (if g.2 = .reg barS then barPay g.1.1 d else match role g.2 with
      | some (true, j) => rcvPay m g.1.1 j
      | some (false, j) => sndPay g.1.1 j
      | none => iprop(emp))
  unfold barPay rcvPay sndPay
  split
  · infer_instance
  · split <;> infer_instance

section Cells
variable (c : Dev nD) (j d : Fin 7)

theorem duties_bar : (exRd (F := F) m).duties (barCell c) 0 = Finset.univ := by
  dsimp only [exRd]; rw [if_pos ⟨rfl, rfl⟩, if_pos rfl]
theorem duties_snd : (exRd (F := F) m).duties (sndCell c j) 0 = {0} := by
  dsimp only [exRd]; rw [if_pos ⟨rfl, rfl⟩, if_neg (dma_ne_bar _), role_snd]; rfl
theorem duties_rcv : (exRd (F := F) m).duties (rcvCell c j) 0 = {0} := by
  dsimp only [exRd]; rw [if_pos ⟨rfl, rfl⟩, if_neg (dma_ne_bar _), role_rcv]; rfl
theorem duties_later (g : GSem nD τ sig) : ∀ r, 1 ≤ r → (exRd (F := F) m).duties g r = ∅ :=
  fun r hr => by dsimp only [exRd]; rw [if_neg fun h => by omega]

theorem amount_bar : (exRd (F := F) m).amount (barCell c) 0 d = 1 := by dsimp only [exRd]; exact if_pos rfl
theorem amount_snd : (exRd (F := F) m).amount (sndCell c j) 0 d = N := by dsimp only [exRd]; exact if_neg (dma_ne_bar _)
theorem amount_rcv : (exRd (F := F) m).amount (rcvCell c j) 0 d = N := by dsimp only [exRd]; exact if_neg (dma_ne_bar _)

theorem expect_bar : (exRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_snd : (exRd (F := F) m).expect (sndCell c j) 0 = N := by
  unfold Schedule.expect Schedule.amountOf; rw [duties_snd, Finset.sum_singleton, amount_snd]
theorem expect_rcv : (exRd (F := F) m).expect (rcvCell c j) 0 = N := by
  unfold Schedule.expect Schedule.amountOf; rw [duties_rcv, Finset.sum_singleton, amount_rcv]

theorem payload_bar : (exRd (F := F) m).payload (barCell c) 0 d = barPay c d := by dsimp only [exRd]; rw [if_pos rfl]
theorem payload_snd : (exRd (F := F) m).payload (sndCell c j) 0 d = sndPay c j := by
  dsimp only [exRd]; rw [if_neg (dma_ne_bar _), role_snd]
theorem payload_rcv : (exRd (F := F) m).payload (rcvCell c j) 0 d = rcvPay m c j := by
  dsimp only [exRd]; rw [if_neg (dma_ne_bar _), role_rcv]

/-- Seven things one by one. -/
theorem bigSep_fin7 (Φ : Fin 7 → sProp 𝕄) :
    bigSep Finset.univ Φ = iprop(Φ 0 ∗ Φ 1 ∗ Φ 2 ∗ Φ 3 ∗ Φ 4 ∗ Φ 5 ∗ Φ 6) := bigSep_univ_eq_bigSepL [0, 1, 2, 3, 4, 5, 6] (by decide) (by decide) Φ

theorem rest_bar : bigSep ((exRd (F := F) m).duties (barCell c) 0 \ ∅) (fun d => (exRd (F := F) m).payload (barCell c) 0 d)
    = bigSep Finset.univ (barPay (F := F) c) := by
  rw [Finset.sdiff_empty, duties_bar]; exact bigSep_congr fun d _ => payload_bar m c d
theorem rest_snd : bigSep ((exRd (F := F) m).duties (sndCell c j) 0 \ ∅) (fun d => (exRd (F := F) m).payload (sndCell c j) 0 d) = sndPay c j := by
  rw [Finset.sdiff_empty, duties_snd, bigSep_singleton, payload_snd]
theorem rest_rcv : bigSep ((exRd (F := F) m).duties (rcvCell c j) 0 \ ∅) (fun d => (exRd (F := F) m).payload (rcvCell c j) 0 d) = rcvPay m c j := by
  rw [Finset.sdiff_empty, duties_rcv, bigSep_singleton, payload_rcv]

end Cells

/-! ## What a device owes, and the levels -/

/-- The credit of the slots in a list, owed to the partners' receive cells; -/
def owedR (c : Dev nD) : List (Fin 7) → CellTallies nD τ sig Bool
  | [] => 0
  | j :: l => owedR c l + tallyAt (rcvCell (peer j.succ c) j) true N
/-- and above it a unit to each listed partner's barrier cell. -/
def owedB (c : Dev nD) : List (Fin 7) → CellTallies nD τ sig Bool
  | [] => owedR c [6, 0, 1, 2, 3, 4, 5]
  | j :: l => owedB c l + tallyAt (barCell (peer j.succ c)) true 1

/-- Everything a device owes at launch. -/
def O₀ (c : Dev nD) : CellTallies nD τ sig Bool := owedB c [0, 1, 2, 3, 4, 5, 6]

def L (g : GSem nD τ sig) : Finset Bool := if g.1.2 = .tc then {false, true} else ∅
/-- Local transfers below the barrier cells, those below the receive cells. -/
def lv (g : GSem nD τ sig) (i : Bool) : ℕ := if i then (if g.2 = .reg barS then 1 else 2) else 0

theorem L_of_ne (g : GSem nD τ sig) (h : g.1.2 ≠ .tc) : L g = ∅ := if_neg h
theorem L_tc (c : Dev nD) (sm : SemLoc sig) (i : Bool) : i ∈ L ((c : Thread nD τ), sm) := by
  unfold L; rw [if_pos rfl]; cases i <;> decide

theorem owedR_pos {c : Dev nD} {l : List (Fin 7)} {g : GSem nD τ sig} {i : Bool} (h : 0 < owedR c l g i) :
    i = true ∧ ∃ j, g = rcvCell (peer j.succ c) j := by
  induction l with
  | nil => exact absurd h (Nat.lt_irrefl 0)
  | cons j l ih =>
    unfold owedR at h
    rw [Pi.add_apply, Finsupp.add_apply, tallyAt_apply] at h
    by_cases hg : g = rcvCell (peer j.succ c) j ∧ i = true
    · exact ⟨hg.2, j, hg.1⟩
    · rw [if_neg hg] at h; exact ih h
theorem owedB_pos {c : Dev nD} {l : List (Fin 7)} {g : GSem nD τ sig} {i : Bool} (h : 0 < owedB c l g i) :
    i = true ∧ ((∃ j, g = rcvCell (peer j.succ c) j) ∨ ∃ j, g = barCell (peer (Fin.succ j) c)) := by
  induction l with
  | nil => exact ⟨(owedR_pos h).1, Or.inl (owedR_pos h).2⟩
  | cons j l ih =>
    unfold owedB at h
    rw [Pi.add_apply, Finsupp.add_apply, tallyAt_apply] at h
    by_cases hg : g = barCell (peer j.succ c) ∧ i = true
    · exact ⟨hg.2, Or.inr ⟨j, hg.1⟩⟩
    · rw [if_neg hg] at h; exact ih h

/-- A local transfer may be waited for whatever the device owes. -/
theorem mayWaits_B (c : Dev nD) (l : List (Fin 7)) : (levAts L lv : sProp 𝕄) ⊢ Transfers.MayWaits (c : Thread nD τ) default (owedB c l) :=
  Transfers.MayWaits.intro fun sm => MayOwe.of_cut (L := L) (lev := lv) 0
    (fun p hp => by rw [Finset.mem_singleton.mp hp]; exact L_tc _ _ _)
    (fun g i hg => by obtain ⟨-, ⟨j, rfl⟩ | ⟨j, rfl⟩⟩ := owedB_pos hg <;> exact L_tc _ _ _)
    (fun p hp => by rw [Finset.mem_singleton.mp hp]; exact Nat.le_refl 0)
    (fun g i hg => by
      obtain ⟨rfl, ⟨j, rfl⟩ | ⟨j, rfl⟩⟩ := owedB_pos hg
      · unfold lv; rw [if_pos rfl, if_neg (dma_ne_bar _)]; decide
      · unfold lv; rw [if_pos rfl, if_pos rfl]; decide)
theorem mayWaits_R (c : Dev nD) (l : List (Fin 7)) : (levAts L lv : sProp 𝕄) ⊢ Transfers.MayWaits (c : Thread nD τ) default (owedR c l) :=
  Transfers.MayWaits.intro fun sm => MayOwe.of_cut (L := L) (lev := lv) 0
    (fun p hp => by rw [Finset.mem_singleton.mp hp]; exact L_tc _ _ _)
    (fun g i hg => by obtain ⟨-, j, rfl⟩ := owedR_pos hg; exact L_tc _ _ _)
    (fun p hp => by rw [Finset.mem_singleton.mp hp]; exact Nat.le_refl 0)
    (fun g i hg => by
      obtain ⟨rfl, j, rfl⟩ := owedR_pos hg
      unfold lv; rw [if_pos rfl, if_neg (dma_ne_bar _)]; decide)
/-- The barrier may be waited for owing receive credit only. -/
theorem mayWait_bar (c : Dev nD) (l : List (Fin 7)) : (levAts L lv : sProp 𝕄) ⊢ MayWait (c : Thread nD τ) (.reg barS) true (owedR c l) :=
  MayOwe.of_cut (L := L) (lev := lv) 1
    (fun p hp => by rw [Finset.mem_singleton.mp hp]; exact L_tc _ _ _)
    (fun g i hg => by obtain ⟨-, j, rfl⟩ := owedR_pos hg; exact L_tc _ _ _)
    (fun p hp => by rw [Finset.mem_singleton.mp hp]; unfold lv; rw [if_pos rfl, if_pos rfl])
    (fun g i hg => by
      obtain ⟨rfl, j, rfl⟩ := owedR_pos hg
      unfold lv; rw [if_pos rfl, if_neg (dma_ne_bar _)]; decide)

end Cert.KernelIdeal.Exch

end
-- ==== Proof.Steps.lean ====
module

public import proofs.«01_k».proof.Proof.Sched

@[expose] public section

noncomputable section

/-! The exchange's steps, each at any slot: signal a partner, wait for all partners, send a slab, wait for one to arrive or to have left. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

abbrev 𝒱₀ : Variants := Variants.none

/-! ## The cells, enumerated -/

/-- A device's cells in the exchange: the barrier's, and per slot the send semaphore's (`false`) and the receive semaphore's (`true`). -/
abbrev CK : Type := Option (Bool × Fin 7)
abbrev csem : CK → SemLoc sig
  | none => .reg barS
  | some (false, j) => .dma (sndS j)
  | some (true, j) => .dma (rcvS j)
abbrev kcell (ck : Dev nD × CK) : GSem nD τ sig := ((ck.1 : Thread nD τ), csem ck.2)

theorem role_csem (k : CK) : role (csem k) = k := by
  rcases k with _ | ⟨_ | _, j⟩
  · rfl
  · exact role_snd j
  · exact role_rcv j

/-- All cells' invariants, under the names `K`, and that each is at round 0. -/
def records (K : Dev nD × CK → ℕ) : sProp 𝕄 :=
  iprop((bigSep Finset.univ fun ck : Dev nD × CK => cellInv ER (exRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) :
    (records m K : sProp 𝕄) ⊢ cellInv ER (exRd m) (K ck) (kcell ck) := by
  have h : (bigSep Finset.univ fun ck : Dev nD × CK => (cellInv ER (exRd m) (K ck) (kcell ck) : sProp 𝕄)) ⊢ cellInv ER (exRd m) (K ck) (kcell ck) :=
    bigSep_elim (Finset.mem_univ ck)
  unfold records
  iintro ⟨H, -⟩
  iapply h; iexact H
theorem reached_at (K : Dev nD × CK → ℕ) (ck : Dev nD × CK) : (records m K : sProp 𝕄) ⊢ reached ER (kcell ck) 0 := by
  have h : (bigSep Finset.univ fun ck : Dev nD × CK => (reached ER (kcell ck) 0 : sProp 𝕄)) ⊢ reached ER (kcell ck) 0 := bigSep_elim (Finset.mem_univ ck)
  unfold records
  iintro ⟨-, H⟩
  iapply h; iexact H

section Steps
variable (K : Dev nD × CK → ℕ) (c : Dev nD) (j : Fin 7)

/-- Signalling slot `j`'s partner pays a unit of what is owed and gives up the slot's own slab. -/
theorem signal_step {α : Type} {Q : α → sProp 𝕄} {k : PUnit → Prog (TpuEff nD τ sig (Elt F) Λ₀ .tc) α}
     (n : Dev nD) (hn : n = peer j.succ c) (l : List (Fin 7)) (W : Waits sig Bool) (k' : ℤ) (hk' : k' = 1)
    (f : (cc0_scratch0 : Ref sig .tc).ty.Contents (Elt F)) :
    iprop(records m K ∗ owes (c : Thread nD τ) (owedB c (j :: l)) W ∗ dutyTok ER (barCell (peer j.succ c)) 0 j
        ∗ commPts c (j.val + 1) (succ_lt j) f)
      ⊢ iprop((owes (c : Thread nD τ) (owedB c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  iintro ⟨#HR, HO, Ht, Hs⟩
  iapply (Rounds.wp_signal 𝒱₀ ER (exRd m) (c : Thread nD τ) none (dst := (peer j.succ c : Thread nD τ)) (κ := K (peer j.succ c, none))
      (d := j) (by rw [duties_bar]; exact Finset.mem_univ _) (amount_bar m (peer j.succ c) j) true (owedB c l) rfl)
  isplitr; · iapply (inv_at m K (peer j.succ c, none)); iexact HR
  isplitl [HO]; · iexact HO
  isplitl [Ht]; · iexact Ht
  isplitl [Hs]
  · rw [payload_bar]; unfold barPay; rw [peer_peer]; iexists f; iexact Hs
  iapply (reached_at m K (peer j.succ c, none)); iexact HR

/-- Waiting for all seven partners brings their slabs for this device's sends. -/
theorem barrier_step {α : Type} {Q : α → sProp 𝕄} {k : PUnit → Prog (TpuEff nD τ sig (Elt F) Λ₀ .tc) α}
     (l : List (Fin 7)) (W : Waits sig Bool) (k' : ℤ) (hk' : k' = 7) :
    iprop(records m K ∗ levAts L lv ∗ cred (tallyAt (barCell c) true 7) ∗ owes (c : Thread nD τ) (owedR c l) W ∗ atPos ER (barCell c) 0 ∅ 0)
      ⊢ iprop(((owes (c : Thread nD τ) (owedR c l) (insert (SemLoc.reg barS, true) W) ∗ atPos ER (barCell c) 1 ∅ 0 ∗ bigSep Finset.univ (barPay (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (exRd m) (c : Thread nD τ) none (κ := K (c, none))
      (wpE_semWait_eq 𝒱₀ (c : Thread nD τ) none Set.univ) (Set.mem_univ _) true (O := owedR c l) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_bar (F := F) c l); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Sending slab `j` of the filled send buffer to slot `j`'s partner. -/
theorem send_step {α : Type} {Q : α → sProp 𝕄} {k : PUnit → Prog (TpuEff nD τ sig (Elt F) Λ₀ .tc) α}
     (n : Dev nD) (hn : n = peer j.succ c) (l : List (Fin 7)) (W : Waits sig Bool)
    {hsc : (commM (j.val + 1) (succ_lt j) : Memref sig (Dev.tc n : Thread nD τ).2.kind .vmem S1024x1024 .bf16).view.ref.isScScratch = false}
    {hsrc : (sbufM j.val j.isLt).view.WordExact} {hdst : (commM (j.val + 1) (succ_lt j)).view.WordExact}
    {hsem : DmaTarget.Typed .vmem (.dma (rcvS j)) (.remote (Dev.tc n : Thread nD τ) (commM (j.val + 1) (succ_lt j)) (.dma (sndS j)) hsc)} :
    iprop(records m K ∗ sbufPts c j.val j.isLt (sendAt m c) ∗ barPay (F := F) c j
        ∗ owes (c : Thread nD τ) (owedR c (j :: l)) W
        ∗ dutyTok ER (sndCell c j) 0 0 ∗ dutyTok ER (rcvCell (peer j.succ c) j) 0 0)
      ⊢ iprop(((cred (tallyAt (sndCell c j) true N) ∗ owes (c : Thread nD τ) (owedR c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbufM j.val j.isLt) (.remote (Dev.tc n : Thread nD τ) (commM (j.val + 1) (succ_lt j)) (.dma (sndS j)) hsc) (.dma (rcvS j)) hsrc hdst hsem) k) Q) := by
  subst hn
  have hcr : (commM (j.val + 1) (succ_lt j)).view.amount (.dma (rcvS j)) = N := comm_credit _ _
  have hO : owedR c (j :: l) = owedR c l + tallyAt (rcvCell (peer j.succ c) j) true N := rfl
  unfold sbufPts barPay
  iintro ⟨#HR, Hs, ⟨%fd, Hd⟩, HO, Ht1, Ht2⟩
  iapply (Rounds.wp_send_pointsTo 𝒱₀ ER (exRd m) (c : Thread nD τ) none (c' := (peer j.succ c : Thread nD τ)) (src := sbufM j.val j.isLt)
    (dst := commM (j.val + 1) (succ_lt j)) (sS := .dma (sndS j)) (sem := .dma (rcvS j)) (κ₁ := K (c, some (false, j))) (κ₂ := K (peer j.succ c, some (true, j)))
    (r₁ := 0) (r₂ := 0) (d₁ := 0) (d₂ := 0) (fd := fd) (fs := sendAt m c)
    (by rw [duties_snd]; exact Finset.mem_singleton_self _) (by rw [duties_rcv]; exact Finset.mem_singleton_self _)
    true true N hcr (amount_snd m c j 0) (amount_rcv m (peer j.succ c) j 0) (owedR c l) hO (W := W)
    (by rw [payload_snd]; unfold sndPay sbufPts; iintro H; iexists _; iexact H)
    (by rw [payload_rcv]; unfold rcvPay; exact landed m c j fd))
  isplitr; · iapply (inv_at m K (c, some (false, j))); iexact HR
  isplitr; · iapply (inv_at m K (peer j.succ c, some (true, j))); iexact HR
  isplitl [Hs]; · iexact Hs
  isplitl [Hd]; · unfold commPts; iexact Hd
  isplitl [HO]; · iexact HO
  isplitl [Ht1]; · iexact Ht1
  isplitr; · iapply (reached_at m K (c, some (false, j))); iexact HR
  isplitl [Ht2]; · iexact Ht2
  iapply (reached_at m K (peer j.succ c, some (true, j))); iexact HR

/-- Waiting, all debts paid, for slot `j`'s partner's rows: the slab of the receive buffer comes filled. -/
theorem recv_step {α : Type} {Q : α → sProp 𝕄} {k : PUnit → Prog (TpuEff nD τ sig (Elt F) Λ₀ .tc) α}
     (W : Waits sig Bool) {hsrc : (sbufM j.val j.isLt).view.WordExact} {hdst : (commM (j.val + 1) (succ_lt j)).view.WordExact} :
    iprop(records m K ∗ cred (tallyAt (rcvCell c j) true N) ∗ owes (c : Thread nD τ) 0 W ∗ atPos ER (rcvCell c j) 0 ∅ 0)
      ⊢ iprop(((owes (c : Thread nD τ) 0 (insert (SemLoc.dma (rcvS j), true) W) ∗ semVal (rcvCell c j) 0 ∗ commPts c (j.val + 1) (succ_lt j) (commAt m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) (sbufM j.val j.isLt) (commM (j.val + 1) (succ_lt j)) hsrc hdst) k) Q) := by
  have hcr : (commM (j.val + 1) (succ_lt j)).view.dmaCredit = N := rfl
  iintro ⟨#HR, Hc, HO, Hat⟩ Hk
  iapply (Rounds.wp_wait_rest_token 𝒱₀ ER (exRd m) (c : Thread nD τ) none (κ := K (c, some (true, j))) (k' := N)
      (fun Kt => by rw [wpE_waitDma2_eq 𝒱₀ (c : Thread nD τ) none Set.univ, hcr]) (Set.mem_univ _) true (O := 0) (W := W) (R := 0) (m := 0) (T := ∅)
      (by rw [Nat.zero_add, expect_rcv])) $$ [Hc HO Hat]
  · isplitr; · iapply (inv_at m K (c, some (true, j))); iexact HR
    isplitl [Hc]; · iexact Hc
    isplitl [HO]; · iexact HO
    isplitr; · rw [MayWait_zero]; iempintro
    iexact Hat
  iintro ⟨HO, Hat, -, Hpay⟩
  ihave Hp := (Entails.of_eq (rest_rcv m c j)) $$ Hpay
  imod (Rounds.cell_close ER (exRd m) (Set.mem_univ (K (c, some (true, j)))) (fun h => h) (R := 0 + 1) (duties_later m (rcvCell c j))) $$ [Hat] with Hz
  · isplitr; · iapply (inv_at m K (c, some (true, j))); iexact HR
    iexact Hat
  iapply Hk
  isplitl [HO]; · iexact HO
  isplitl [Hz]; · iexact Hz
  unfold rcvPay; iexact Hp

/-- Waiting for slab `j` of the send buffer to have left. -/
theorem sent_step {α : Type} {Q : α → sProp 𝕄} {k : PUnit → Prog (TpuEff nD τ sig (Elt F) Λ₀ .tc) α}
     (W : Waits sig Bool) {hsrc : (commM (j.val + 1) (succ_lt j)).view.WordExact} {hdst : (sbufM j.val j.isLt).view.WordExact} :
    iprop(records m K ∗ cred (tallyAt (sndCell c j) true N) ∗ owes (c : Thread nD τ) 0 W ∗ atPos ER (sndCell c j) 0 ∅ 0)
      ⊢ iprop(((owes (c : Thread nD τ) 0 (insert (SemLoc.dma (sndS j), true) W) ∗ semVal (sndCell c j) 0 ∗ ∃ f, sbufPts (F := F) c j.val j.isLt f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) (commM (j.val + 1) (succ_lt j)) (sbufM j.val j.isLt) hsrc hdst) k) Q) := by
  have hcr : (sbufM j.val j.isLt).view.dmaCredit = N := rfl
  iintro ⟨#HR, Hc, HO, Hat⟩ Hk
  iapply (Rounds.wp_wait_rest_token 𝒱₀ ER (exRd m) (c : Thread nD τ) none (κ := K (c, some (false, j))) (k' := N)
      (fun Kt => by rw [wpE_waitDma2_eq 𝒱₀ (c : Thread nD τ) none Set.univ, hcr]) (Set.mem_univ _) true (O := 0) (W := W) (R := 0) (m := 0) (T := ∅)
      (by rw [Nat.zero_add, expect_snd])) $$ [Hc HO Hat]
  · isplitr; · iapply (inv_at m K (c, some (false, j))); iexact HR
    isplitl [Hc]; · iexact Hc
    isplitl [HO]; · iexact HO
    isplitr; · rw [MayWait_zero]; iempintro
    iexact Hat
  iintro ⟨HO, Hat, -, Hpay⟩
  ihave Hp := (Entails.of_eq (rest_snd m c j)) $$ Hpay
  imod (Rounds.cell_close ER (exRd m) (Set.mem_univ (K (c, some (false, j)))) (fun h => h) (R := 0 + 1) (duties_later m (sndCell c j))) $$ [Hat] with Hz
  · isplitr; · iapply (inv_at m K (c, some (false, j))); iexact HR
    iexact Hat
  iapply Hk
  isplitl [HO]; · iexact HO
  isplitl [Hz]; · iexact Hz
  unfold sndPay; iexact Hp

/-- The barrier cell, its round over, gives its counter back. -/
theorem bar_close : iprop(records m K ∗ atPos ER (barCell c) 1 ∅ 0) ⊢ (|={Set.univ}=> semVal (barCell c) 0 : sProp 𝕄) := by
  iintro ⟨#HR, Hat⟩
  iapply (Rounds.cell_close ER (exRd m) (Set.mem_univ (K (c, none))) (fun h => h) (R := 0 + 1) (duties_later m (barCell c)))
  isplitr; · iapply (inv_at m K (c, none)); iexact HR
  iexact Hat

end Steps

end Cert.KernelIdeal.Exch

end
-- ==== Proof.Content.lean ====
module

public import proofs.«01_k».proof.Proof.Steps
public import proofs.«01_k».proof.Proof.Gen.KernelIdeal.Points

@[expose] public section

noncomputable section

/-! What the copies and the stores of a device leave in its buffers. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

theorem stage_inb (s : ℕ) (h : s < 2) : ∀ a, (![s, 0, 0] : Fin 3 → Nat) a + S1x512x1024.size a ≤ S2x512x1024.size a := by
  intro a; fin_cases a
  · exact h
  · exact Nat.le_of_eq rfl
  · exact Nat.le_of_eq rfl
theorem wbuf_inb (s : ℕ) (h : s < 2) : ∀ a, (![s, 0, 0] : Fin 3 → Nat) a + S1x1024x1024.size a ≤ S2x1024x1024.size a := by
  intro a; fin_cases a
  · exact h
  · exact Nat.le_of_eq rfl
  · exact Nat.le_of_eq rfl

abbrev stageM (s : ℕ) (h : s < 2) : Memref sig .tc .vmem S512x1024 .f32 :=
  ((Memref.whole cc0_scratch2 : Memref sig .tc .vmem S2x512x1024 .f32).slice (Rect.unit (s := S2x512x1024) ![s, 0, 0] S1x512x1024.size (stage_inb s h)) (fun _ => rfl)).squeeze S512x1024 squeezes_S1x512x1024_S512x1024
abbrev wbufM (s : ℕ) (h : s < 2) : Memref sig .tc .vmem S1024x1024 .f32 :=
  ((Memref.whole cc0_scratch3 : Memref sig .tc .vmem S2x1024x1024 .f32).slice (Rect.unit (s := S2x1024x1024) ![s, 0, 0] S1x1024x1024.size (wbuf_inb s h)) (fun _ => rfl)).squeeze S1024x1024 squeezes_S1x1024x1024_S1024x1024
def stagePts (c : Dev nD) (t : ℕ) (h : t < 2) (f : (cc0_scratch2 : Ref sig .tc).ty.Contents (Elt F)) : sProp 𝕄 :=
  (stageM t h).view.loc (c : Thread nD τ) ↦[(stageM t h).view.set]{fullShare} f
def wbufPts (c : Dev nD) (t : ℕ) (h : t < 2) (f : (cc0_scratch3 : Ref sig .tc).ty.Contents (Elt F)) : sProp 𝕄 :=
  (wbufM t h).view.loc (c : Thread nD τ) ↦[(wbufM t h).view.set]{fullShare} f

/-! ## What a filled stage reads -/

theorem pay1_apply (v : Vec F S1x512x1024 .f32) (r : Fin 512) (k : Fin 1024) :
    k0_pay1 v (ix3 (0 : Fin 1) r k) = FloatOps.truncf .bf16 bitsLt_bf16_f32 (v (ix3 (0 : Fin 1) r k)) := by
  unfold k0_pay1
  refine (shapeCast_ab_1ab_apply _ _ _ _ _).trans ?_
  show FloatOps.truncf .bf16 bitsLt_bf16_f32 (shapeCast S512x1024 v shapeCasts_S1x512x1024_S512x1024 (ix2 r k)) = _
  exact congrArg _ (shapeCast_1ab_ab_apply _ _ _ _)

theorem stage_emb (s : ℕ) (h : s < 2) (r : Fin 512) (k : Fin 1024) :
    (stageM s h).view.emb (ix2 r k) = (ix3 (⟨s, h⟩ : Fin 2) r k : S2x512x1024.Idx) := by
  show (Rect.unit (s := S2x512x1024) ![s, 0, 0] S1x512x1024.size (stage_inb s h)).emb (Shape.reshapeEquiv _ (ix2 r k)) = _
  rw [show Shape.reshapeEquiv _ (ix2 r k) = ix3 (0 : Fin 1) r k from reshapeEquiv_ix2_1ab _ r k]
  funext a; apply Fin.ext
  fin_cases a
  · show s + 1 * 0 = s; omega
  · show 0 + 1 * r.val = r.val; omega
  · show 0 + 1 * k.val = k.val; omega
theorem wbuf_emb (s : ℕ) (h : s < 2) (r k : Fin 1024) :
    (wbufM s h).view.emb (ix2 r k) = (ix3 (⟨s, h⟩ : Fin 2) r k : S2x1024x1024.Idx) := by
  show (Rect.unit (s := S2x1024x1024) ![s, 0, 0] S1x1024x1024.size (wbuf_inb s h)).emb (Shape.reshapeEquiv _ (ix2 r k)) = _
  rw [show Shape.reshapeEquiv _ (ix2 r k) = ix3 (0 : Fin 1) r k from reshapeEquiv_ix2_1ab _ r k]
  funext a; apply Fin.ext
  fin_cases a
  · show s + 1 * 0 = s; omega
  · show 0 + 1 * r.val = r.val; omega
  · show 0 + 1 * k.val = k.val; omega

omit [FloatOps F] in
/-- Reading a view after a store over all of it gives what was stored. -/
theorem read_last {sp : Space} {s : Shape} {e : EltTy} (v : View sig .tc sp s e) (f : v.ty.Contents (Elt F)) (g : s.Idx → Elt F e)
    (l : List (View.Piece (Elt F) s e)) (x : s.Idx) : v.read (Elt F) (v.writes (Elt F) f (⟨Rect.whole s, g⟩ :: l)) x = g x := by
  have h := View.read_writes_cons_emb v f (Rect.whole s) g l x
  rw [Rect.emb_whole_apply] at h
  exact h

omit [FloatOps F] in
theorem stage_raw (s : ℕ) (h : s < 2) (f : (cc0_scratch2 : Ref sig .tc).ty.Contents (Elt F)) (r : Fin 512) (k : Fin 1024) :
    (stageM s h).view.read (Elt F) f (ix2 r k) = f (ix3 (⟨s, h⟩ : Fin 2) r k : S2x512x1024.Idx) := by
  rw [View.read_apply, stage_emb]; rfl
omit [FloatOps F] in
theorem wbuf_raw (s : ℕ) (h : s < 2) (f : (cc0_scratch3 : Ref sig .tc).ty.Contents (Elt F)) (r k : Fin 1024) :
    (wbufM s h).view.read (Elt F) f (ix2 r k) = f (ix3 (⟨s, h⟩ : Fin 2) r k : S2x1024x1024.Idx) := by
  rw [View.read_apply, wbuf_emb]; rfl

omit [FloatOps F] in
theorem stage_load (s : ℕ) (h : s < 2) (inb : ∀ a, (![s, 0, 0] : Fin 3 → Nat) a + S1x512x1024.size a ≤ S2x512x1024.size a)
    (f : (cc0_scratch2 : Ref sig .tc).ty.Contents (Elt F)) (r : Fin 512) (k : Fin 1024) :
    View.readAt (Elt F) (Memref.whole cc0_scratch2).view (Rect.unit (s := S2x512x1024) ![s, 0, 0] S1x512x1024.size inb).toLoadRect f (ix3 (0 : Fin 1) r k)
      = f (ix3 (⟨s, h⟩ : Fin 2) r k : S2x512x1024.Idx) := by
  show f ((Rect.unit (s := S2x512x1024) ![s, 0, 0] S1x512x1024.size inb).emb (ix3 (0 : Fin 1) r k)) = _
  congr 1
  funext a; apply Fin.ext
  fin_cases a
  · show s + 1 * 0 = s; omega
  · show 0 + 1 * r.val = r.val; omega
  · show 0 + 1 * k.val = k.val; omega
omit [FloatOps F] in
theorem wbuf_load (s : ℕ) (h : s < 2) (inb : ∀ a, (![s, 0, 0] : Fin 3 → Nat) a + S1x1024x1024.size a ≤ S2x1024x1024.size a)
    (f : (cc0_scratch3 : Ref sig .tc).ty.Contents (Elt F)) (r k : Fin 1024) :
    View.readAt (Elt F) (Memref.whole cc0_scratch3).view (Rect.unit (s := S2x1024x1024) ![s, 0, 0] S1x1024x1024.size inb).toLoadRect f (ix3 (0 : Fin 1) r k)
      = f (ix3 (⟨s, h⟩ : Fin 2) r k : S2x1024x1024.Idx) := by
  show f ((Rect.unit (s := S2x1024x1024) ![s, 0, 0] S1x1024x1024.size inb).emb (ix3 (0 : Fin 1) r k)) = _
  congr 1
  funext a; apply Fin.ext
  fin_cases a
  · show s + 1 * 0 = s; omega
  · show 0 + 1 * r.val = r.val; omega
  · show 0 + 1 * k.val = k.val; omega

omit [FloatOps F] in
/-- A load of a stage's half after a copy into it reads what the copy brought. -/
theorem stage_read (s : ℕ) (h : s < 2) (inb : ∀ a, (![s, 0, 0] : Fin 3 → Nat) a + S1x512x1024.size a ≤ S2x512x1024.size a)
    (f : (cc0_scratch2 : Ref sig .tc).ty.Contents (Elt F)) (g : S512x1024.Idx → F .f32) (l) (r : Fin 512) (k : Fin 1024) :
    View.readAt (Elt F) (Memref.whole cc0_scratch2).view (Rect.unit (s := S2x512x1024) ![s, 0, 0] S1x512x1024.size inb).toLoadRect
      ((stageM s h).view.writes (Elt F) f (⟨Rect.whole S512x1024, g⟩ :: l)) (ix3 (0 : Fin 1) r k) = g (ix2 r k) := by
  exact (stage_load s h inb _ r k).trans ((stage_raw s h _ r k).symm.trans (read_last (stageM s h).view f g l (ix2 r k)))
omit [FloatOps F] in
theorem wbuf_read (s : ℕ) (h : s < 2) (inb : ∀ a, (![s, 0, 0] : Fin 3 → Nat) a + S1x1024x1024.size a ≤ S2x1024x1024.size a)
    (f : (cc0_scratch3 : Ref sig .tc).ty.Contents (Elt F)) (g : S1024x1024.Idx → F .f32) (l) (r k : Fin 1024) :
    View.readAt (Elt F) (Memref.whole cc0_scratch3).view (Rect.unit (s := S2x1024x1024) ![s, 0, 0] S1x1024x1024.size inb).toLoadRect
      ((wbufM s h).view.writes (Elt F) f (⟨Rect.whole S1024x1024, g⟩ :: l)) (ix3 (0 : Fin 1) r k) = g (ix2 r k) := by
  exact (wbuf_load s h inb _ r k).trans ((wbuf_raw s h _ r k).symm.trans (read_last (wbufM s h).view f g l (ix2 r k)))

/-- Half a band of a device's `x`, and a block of its weights, as a copy reads them. -/
abbrev xCopy (c : Dev nD) (off : Fin 2 → ℕ) (inb : ∀ a, off a + S512x1024.size a ≤ S8192x1024.size a) : S512x1024.Idx → F .f32 :=
  ReadAs.same.apply (View.read (Elt F) ((Memref.whole main_arg0 : Memref sig .tc .hbm S8192x1024 .f32).slice (Rect.unit (s := S8192x1024) off S512x1024.size inb) (fun _ => rfl)).view (m ((c : Thread nD τ).loc main_arg0)))
abbrev wCopy (c : Dev nD) (off : Fin 2 → ℕ) (inb : ∀ a, off a + S1024x1024.size a ≤ S8192x4096.size a) : S1024x1024.Idx → F .f32 :=
  ReadAs.same.apply (View.read (Elt F) ((Memref.whole main_arg1 : Memref sig .tc .hbm S8192x4096 .f32).slice (Rect.unit (s := S8192x4096) off S1024x1024.size inb) (fun _ => rfl)).view (m ((c : Thread nD τ).loc main_arg1)))

omit [FloatOps F] in
theorem xCopy_apply (c d : Dev nD) (b : ℕ) (off : Fin 2 → ℕ) (inb) (ho : off = ![1024 * d.val + b, 0]) (r : Fin 512) (k : Fin 1024) (hb : b + r.val < 1024) :
    xCopy m c off inb (ix2 r k) = xAt m c (ix2 (row d ⟨b + r.val, hb⟩) k) := by
  show xAt m c ((Rect.unit (s := S8192x1024) off S512x1024.size inb).emb (ix2 r k)) = _
  congr 1
  subst ho
  funext a; apply Fin.ext
  fin_cases a
  · show 1024 * d.val + b + 1 * r.val = 1024 * d.val + (b + r.val); omega
  · show 0 + 1 * k.val = k.val; omega

theorem col_lt (nb : Fin 4) (j : Fin 1024) : 1024 * nb.val + j.val < 4096 := by omega
/-- Column `j` of column block `nb`. -/
def col (nb : Fin 4) (j : Fin 1024) : Fin 4096 := ⟨1024 * nb.val + j.val, col_lt nb j⟩

omit [FloatOps F] in
theorem wCopy_apply (c d : Dev nD) (nb : Fin 4) (off : Fin 2 → ℕ) (inb) (ho : off = ![1024 * d.val, 1024 * nb.val]) (r k : Fin 1024) :
    wCopy m c off inb (ix2 r k) = wAt m c (ix2 (row d r) (col nb k)) := by
  show wAt m c ((Rect.unit (s := S8192x4096) off S1024x1024.size inb).emb (ix2 r k)) = _
  congr 1
  subst ho
  funext a; apply Fin.ext
  fin_cases a
  · show 1024 * d.val + 1 * r.val = 1024 * d.val + r.val; omega
  · show 1024 * nb.val + 1 * k.val = 1024 * nb.val + k.val; omega

/-- A rounded half band stored: each element the rounded `x`. -/
theorem half_apply (c d : Dev nD) (b s : ℕ) (h : s < 2) (inbs) (off : Fin 2 → ℕ) (inb) (ho : off = ![1024 * d.val + b, 0])
    (p : Vec F S1x512x1024 .f32 → FVec F S1x512x1024 .bf16) (hp : p = k0_pay1) (f) (l) (r : Fin 512) (k : Fin 1024) (hb : b + r.val < 1024) :
    p (View.readAt (Elt F) (Memref.whole cc0_scratch2).view (Rect.unit (s := S2x512x1024) ![s, 0, 0] S1x512x1024.size inbs).toLoadRect
      ((stageM s h).view.writes (Elt F) f (⟨Rect.whole S512x1024, xCopy m c off inb⟩ :: l))) (ix3 (0 : Fin 1) r k)
      = castX m c d ⟨b + r.val, hb⟩ k := by
  subst hp
  rw [pay1_apply, stage_read, xCopy_apply m c d b off inb ho r k hb]
  rfl

/-! ## A filled slab -/

omit [FloatOps F] in
/-- A buffer stored piece by piece, each piece agreeing with `G` and every element held under some piece, holds `G`. -/
theorem pts_pieces (c : Dev nD) (b : Ref sig .tc) (I : Finset (Idx ((Memref.whole b).view.loc (c : Thread nD τ)))) (f G : b.ty.Contents (Elt F))
    (L : List (View.Piece (Elt F) b.ty.shape b.ty.elt)) (hp : ∀ p ∈ L, ∀ x : p.1.shape.Idx, p.2 x = G (p.1.emb x))
    (hc : ∀ i ∈ I, ∃ p ∈ L, i ∈ p.1.set) :
    ((Memref.whole b).view.loc (c : Thread nD τ) ↦[I]{fullShare} (Memref.whole b).view.writes (Elt F) f L : sProp 𝕄)
      ⊢ (Memref.whole b).view.loc (c : Thread nD τ) ↦[I]{fullShare} G :=
  Entails.of_eq (pointsTo_congr fun i hi => View.read_writes_apply_of_pieces (Memref.whole b).view f G L hp i (hc i hi))

/-- The halves of a slab, as stored. -/
theorem half_mem {n : ℕ} (j : ℕ) (hj : j < n) (b : ℕ) (inb : ∀ a, (![j, b, 0] : Fin 3 → ℕ) a + S1x512x1024.size a ≤ (⟨3, ![n, 1024, 1024]⟩ : Shape).size a)
    (r k : Fin 1024) (h1 : b ≤ r.val) (h2 : r.val < b + 512) :
    (ix3 (⟨j, hj⟩ : Fin n) r k : (⟨3, ![n, 1024, 1024]⟩ : Shape).Idx) ∈ (Rect.unit (s := ⟨3, ![n, 1024, 1024]⟩) ![j, b, 0] S1x512x1024.size inb).set := by
  refine Rect.mem_set_unit.mpr ?_
  intro a; fin_cases a
  · exact ⟨Nat.le_refl j, Nat.lt_succ_self j⟩
  · exact ⟨h1, h2⟩
  · exact ⟨Nat.zero_le _, by show k.val < 0 + 1024; omega⟩
theorem half_emb {n : ℕ} (j : ℕ) (hj : j < n) (b : ℕ) (inb : ∀ a, (![j, b, 0] : Fin 3 → ℕ) a + S1x512x1024.size a ≤ (⟨3, ![n, 1024, 1024]⟩ : Shape).size a)
    (r : Fin 512) (k : Fin 1024) (hb : b + r.val < 1024) :
    (Rect.unit (s := ⟨3, ![n, 1024, 1024]⟩) ![j, b, 0] S1x512x1024.size inb).emb (ix3 (0 : Fin 1) r k) = (ix3 (⟨j, hj⟩ : Fin n) (⟨b + r.val, hb⟩ : Fin 1024) k : (⟨3, ![n, 1024, 1024]⟩ : Shape).Idx) := by
  funext a; apply Fin.ext
  fin_cases a
  · show j + 1 * 0 = j; omega
  · show b + 1 * r.val = b + r.val; omega
  · show 0 + 1 * k.val = k.val; omega
theorem half_ix (x : S1x512x1024.Idx) : ∃ (r : Fin 512) (k : Fin 1024), x = ix3 (0 : Fin 1) r k :=
  ⟨x 1, x 2, by funext a; fin_cases a; exact Subsingleton.elim (α := Fin 1) _ _; rfl; rfl⟩

omit [FloatOps F] in
theorem sbuf_halves (c : Dev nD) (j : ℕ) (hj : j < 7) (i1 i2) (f G : (cc0_scratch1 : Ref sig .tc).ty.Contents (Elt F)) (w1 w2 : S1x512x1024.Idx → F .bf16)
    (h1 : ∀ (r : Fin 512) (k : Fin 1024), w1 (ix3 (0 : Fin 1) r k) = G (ix3 (⟨j, hj⟩ : Fin 7) (⟨0 + r.val, by omega⟩ : Fin 1024) k : S7x1024x1024.Idx))
    (h2 : ∀ (r : Fin 512) (k : Fin 1024), w2 (ix3 (0 : Fin 1) r k) = G (ix3 (⟨j, hj⟩ : Fin 7) (⟨512 + r.val, by omega⟩ : Fin 1024) k : S7x1024x1024.Idx)) :
    ((sbufM j hj).view.loc (c : Thread nD τ) ↦[(sbufM j hj).view.set]{fullShare}
      View.write (Elt F) ((Memref.whole cc0_scratch1 : Memref sig .tc .vmem S7x1024x1024 .bf16).access (Rect.unit (s := S7x1024x1024) ![j, 512, 0] S1x512x1024.size i2))
        (View.write (Elt F) ((Memref.whole cc0_scratch1 : Memref sig .tc .vmem S7x1024x1024 .bf16).access (Rect.unit (s := S7x1024x1024) ![j, 0, 0] S1x512x1024.size i1)) f
          w1 Finset.univ) w2 Finset.univ : sProp 𝕄)
    ⊢ (sbufM j hj).view.loc (c : Thread nD τ) ↦[(sbufM j hj).view.set]{fullShare} G := by
  refine pts_pieces c cc0_scratch1 _ f G [⟨Rect.unit (s := S7x1024x1024) ![j, 512, 0] S1x512x1024.size i2, w2⟩, ⟨Rect.unit (s := S7x1024x1024) ![j, 0, 0] S1x512x1024.size i1, w1⟩] ?_ ?_
  · intro P hP
    rw [List.mem_cons, List.mem_singleton] at hP
    rcases hP with rfl | rfl
    · intro x; obtain ⟨r, k, rfl⟩ := half_ix x
      exact (h2 r k).trans (congrArg G (half_emb j hj 512 i2 r k (by omega)).symm)
    · intro x; obtain ⟨r, k, rfl⟩ := half_ix x
      exact (h1 r k).trans (congrArg G (half_emb j hj 0 i1 r k (by omega)).symm)
  · intro e he
    obtain ⟨x, -, rfl⟩ := Finset.mem_map.mp he
    obtain ⟨r, k, rfl⟩ : ∃ r k : Fin 1024, x = ix2 r k := ⟨x 0, x 1, by funext a; fin_cases a <;> rfl⟩
    rw [sbuf_emb]
    by_cases hr : r.val < 512
    · exact ⟨_, List.mem_cons_of_mem _ (List.mem_singleton_self _), half_mem j hj 0 i1 r k (Nat.zero_le _) (by omega)⟩
    · exact ⟨_, List.mem_cons_self, half_mem j hj 512 i2 r k (by omega) (by omega)⟩

omit [FloatOps F] in
theorem comm_halves (c : Dev nD) (j : ℕ) (hj : j < 8) (i1 i2) (f G : (cc0_scratch0 : Ref sig .tc).ty.Contents (Elt F)) (w1 w2 : S1x512x1024.Idx → F .bf16)
    (h1 : ∀ (r : Fin 512) (k : Fin 1024), w1 (ix3 (0 : Fin 1) r k) = G (ix3 (⟨j, hj⟩ : Fin 8) (⟨0 + r.val, by omega⟩ : Fin 1024) k : S8x1024x1024.Idx))
    (h2 : ∀ (r : Fin 512) (k : Fin 1024), w2 (ix3 (0 : Fin 1) r k) = G (ix3 (⟨j, hj⟩ : Fin 8) (⟨512 + r.val, by omega⟩ : Fin 1024) k : S8x1024x1024.Idx)) :
    ((commM j hj).view.loc (c : Thread nD τ) ↦[(commM j hj).view.set]{fullShare}
      View.write (Elt F) ((Memref.whole cc0_scratch0 : Memref sig .tc .vmem S8x1024x1024 .bf16).access (Rect.unit (s := S8x1024x1024) ![j, 512, 0] S1x512x1024.size i2))
        (View.write (Elt F) ((Memref.whole cc0_scratch0 : Memref sig .tc .vmem S8x1024x1024 .bf16).access (Rect.unit (s := S8x1024x1024) ![j, 0, 0] S1x512x1024.size i1)) f
          w1 Finset.univ) w2 Finset.univ : sProp 𝕄)
    ⊢ (commM j hj).view.loc (c : Thread nD τ) ↦[(commM j hj).view.set]{fullShare} G := by
  refine pts_pieces c cc0_scratch0 _ f G [⟨Rect.unit (s := S8x1024x1024) ![j, 512, 0] S1x512x1024.size i2, w2⟩, ⟨Rect.unit (s := S8x1024x1024) ![j, 0, 0] S1x512x1024.size i1, w1⟩] ?_ ?_
  · intro P hP
    rw [List.mem_cons, List.mem_singleton] at hP
    rcases hP with rfl | rfl
    · intro x; obtain ⟨r, k, rfl⟩ := half_ix x
      exact (h2 r k).trans (congrArg G (half_emb j hj 512 i2 r k (by omega)).symm)
    · intro x; obtain ⟨r, k, rfl⟩ := half_ix x
      exact (h1 r k).trans (congrArg G (half_emb j hj 0 i1 r k (by omega)).symm)
  · intro e he
    obtain ⟨x, -, rfl⟩ := Finset.mem_map.mp he
    obtain ⟨r, k, rfl⟩ : ∃ r k : Fin 1024, x = ix2 r k := ⟨x 0, x 1, by funext a; fin_cases a <;> rfl⟩
    rw [comm_emb]
    by_cases hr : r.val < 512
    · exact ⟨_, List.mem_cons_of_mem _ (List.mem_singleton_self _), half_mem j hj 0 i1 r k (Nat.zero_le _) (by omega)⟩
    · exact ⟨_, List.mem_cons_self, half_mem j hj 512 i2 r k (by omega) (by omega)⟩

/-- The two halves of slab `j` of the send buffer stored: the slab filled. -/
theorem send_fill (c : Dev nD) (j : ℕ) (hj : j < 7) (i1 i2 i3 i4) (o1 o2 : Fin 2 → ℕ) (inb1 inb2)
    (e1 : o1 = ![1024 * (peer (Fin.succ ⟨j, hj⟩) c).val + 0, 0]) (e2 : o2 = ![1024 * (peer (Fin.succ ⟨j, hj⟩) c).val + 512, 0])
    (p q : Vec F S1x512x1024 .f32 → FVec F S1x512x1024 .bf16) (hp : p = k0_pay1) (hq : q = k0_pay1)
    (g1 g2 : (cc0_scratch2 : Ref sig .tc).ty.Contents (Elt F)) (l1 l2) (f : (cc0_scratch1 : Ref sig .tc).ty.Contents (Elt F)) :
    ((sbufM j hj).view.loc (c : Thread nD τ) ↦[(sbufM j hj).view.set]{fullShare}
      View.write (Elt F) ((Memref.whole cc0_scratch1 : Memref sig .tc .vmem S7x1024x1024 .bf16).access (Rect.unit (s := S7x1024x1024) ![j, 512, 0] S1x512x1024.size i2))
        (View.write (Elt F) ((Memref.whole cc0_scratch1 : Memref sig .tc .vmem S7x1024x1024 .bf16).access (Rect.unit (s := S7x1024x1024) ![j, 0, 0] S1x512x1024.size i1)) f
          (p (View.readAt (Elt F) (Memref.whole cc0_scratch2).view (Rect.unit (s := S2x512x1024) ![0, 0, 0] S1x512x1024.size i3).toLoadRect
            ((stageM 0 Nat.zero_lt_two).view.writes (Elt F) g1 (⟨Rect.whole S512x1024, xCopy m c o1 inb1⟩ :: l1)))) Finset.univ)
        (q (View.readAt (Elt F) (Memref.whole cc0_scratch2).view (Rect.unit (s := S2x512x1024) ![1, 0, 0] S1x512x1024.size i4).toLoadRect
            ((stageM 1 Nat.one_lt_two).view.writes (Elt F) g2 (⟨Rect.whole S512x1024, xCopy m c o2 inb2⟩ :: l2)))) Finset.univ : sProp 𝕄)
    ⊢ sbufPts c j hj (sendAt m c) :=
  by
  unfold sbufPts
  have hz : ∀ r k : Fin 1024, castX m c (peer (Fin.succ ⟨j, hj⟩) c) r k = sendAt m c (ix3 (⟨j, hj⟩ : Fin 7) r k : S7x1024x1024.Idx) := fun r k => rfl
  refine sbuf_halves c j hj i1 i2 f (sendAt m c) _ _ ?_ ?_
  · intro r k
    refine Eq.trans ?_ (hz _ _)
    exact half_apply m c (peer (Fin.succ ⟨j, hj⟩) c) 0 0 Nat.zero_lt_two i3 o1 inb1 e1 p hp g1 l1 r k (by omega)
  · intro r k
    refine Eq.trans ?_ (hz _ _)
    exact half_apply m c (peer (Fin.succ ⟨j, hj⟩) c) 512 1 Nat.one_lt_two i4 o2 inb2 e2 q hq g2 l2 r k (by omega)

/-- The device's own band stored in slab 0 of its receive buffer. -/
theorem own_fill (c : Dev nD) (i1 i2 i3 i4) (o1 o2 : Fin 2 → ℕ) (inb1 inb2)
    (e1 : o1 = ![1024 * c.val + 0, 0]) (e2 : o2 = ![1024 * c.val + 512, 0])
    (p q : Vec F S1x512x1024 .f32 → FVec F S1x512x1024 .bf16) (hp : p = k0_pay1) (hq : q = k0_pay1)
    (g1 g2 : (cc0_scratch2 : Ref sig .tc).ty.Contents (Elt F)) (l1 l2) (f : (cc0_scratch0 : Ref sig .tc).ty.Contents (Elt F)) :
    ((commM 0 (by decide)).view.loc (c : Thread nD τ) ↦[(commM 0 (by decide)).view.set]{fullShare}
      View.write (Elt F) ((Memref.whole cc0_scratch0 : Memref sig .tc .vmem S8x1024x1024 .bf16).access (Rect.unit (s := S8x1024x1024) ![0, 512, 0] S1x512x1024.size i2))
        (View.write (Elt F) ((Memref.whole cc0_scratch0 : Memref sig .tc .vmem S8x1024x1024 .bf16).access (Rect.unit (s := S8x1024x1024) ![0, 0, 0] S1x512x1024.size i1)) f
          (p (View.readAt (Elt F) (Memref.whole cc0_scratch2).view (Rect.unit (s := S2x512x1024) ![0, 0, 0] S1x512x1024.size i3).toLoadRect
            ((stageM 0 Nat.zero_lt_two).view.writes (Elt F) g1 (⟨Rect.whole S512x1024, xCopy m c o1 inb1⟩ :: l1)))) Finset.univ)
        (q (View.readAt (Elt F) (Memref.whole cc0_scratch2).view (Rect.unit (s := S2x512x1024) ![1, 0, 0] S1x512x1024.size i4).toLoadRect
            ((stageM 1 Nat.one_lt_two).view.writes (Elt F) g2 (⟨Rect.whole S512x1024, xCopy m c o2 inb2⟩ :: l2)))) Finset.univ : sProp 𝕄)
    ⊢ (commM 0 (by decide)).view.loc (c : Thread nD τ) ↦[(commM 0 (by decide)).view.set]{fullShare} commAt m c := by
  have hz : ∀ r k : Fin 1024, castX m c c r k = commAt m c (ix3 (⟨0, by decide⟩ : Fin 8) r k : S8x1024x1024.Idx) := fun r k => by
    show _ = castX m (peer 0 c) c r k
    rw [peer_zero]
  refine comm_halves c 0 (by decide) i1 i2 f (commAt m c) _ _ ?_ ?_
  · intro r k
    refine Eq.trans ?_ (hz _ _)
    exact half_apply m c c 0 0 Nat.zero_lt_two i3 o1 inb1 e1 p hp g1 l1 r k (by omega)
  · intro r k
    refine Eq.trans ?_ (hz _ _)
    exact half_apply m c c 512 1 Nat.one_lt_two i4 o2 inb2 e2 q hq g2 l2 r k (by omega)

end Cert.KernelIdeal.Exch

end
-- ==== Proof.Output.lean ====
module

public import proofs.«01_k».proof.Proof.Content

@[expose] public section

noncomputable section

/-! The output a device accumulates, product by product. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-! ## Where a device copies from -/

theorem off1a (c : Dev nD) : k0_off1 c 0#32 = ![1024 * (peer 7 c).val + 0, 0] := by revert c; decide +kernel
theorem off1b (c : Dev nD) : k0_off1 c 512#32 = ![1024 * (peer 7 c).val + 512, 0] := by revert c; decide +kernel
theorem off2a (c : Dev nD) : k0_off2 c 0#32 = ![1024 * (peer 1 c).val + 0, 0] := by revert c; decide +kernel
theorem off2b (c : Dev nD) : k0_off2 c 512#32 = ![1024 * (peer 1 c).val + 512, 0] := by revert c; decide +kernel
theorem off3a (c : Dev nD) : k0_off3 c 0#32 = ![1024 * (peer 2 c).val + 0, 0] := by revert c; decide +kernel
theorem off3b (c : Dev nD) : k0_off3 c 512#32 = ![1024 * (peer 2 c).val + 512, 0] := by revert c; decide +kernel
theorem off4a (c : Dev nD) : k0_off4 c 0#32 = ![1024 * (peer 3 c).val + 0, 0] := by revert c; decide +kernel
theorem off4b (c : Dev nD) : k0_off4 c 512#32 = ![1024 * (peer 3 c).val + 512, 0] := by revert c; decide +kernel
theorem off5a (c : Dev nD) : k0_off5 c 0#32 = ![1024 * (peer 4 c).val + 0, 0] := by revert c; decide +kernel
theorem off5b (c : Dev nD) : k0_off5 c 512#32 = ![1024 * (peer 4 c).val + 512, 0] := by revert c; decide +kernel
theorem off6a (c : Dev nD) : k0_off6 c 0#32 = ![1024 * (peer 5 c).val + 0, 0] := by revert c; decide +kernel
theorem off6b (c : Dev nD) : k0_off6 c 512#32 = ![1024 * (peer 5 c).val + 512, 0] := by revert c; decide +kernel
theorem off7a (c : Dev nD) : k0_off7 c 0#32 = ![1024 * (peer 6 c).val + 0, 0] := by revert c; decide +kernel
theorem off7b (c : Dev nD) : k0_off7 c 512#32 = ![1024 * (peer 6 c).val + 512, 0] := by revert c; decide +kernel
theorem off8a (c : Dev nD) : k0_off8 c 0#32 = ![1024 * c.val + 0, 0] := by revert c; decide +kernel
theorem off8b (c : Dev nD) : k0_off8 c 512#32 = ![1024 * c.val + 512, 0] := by revert c; decide +kernel
theorem off9_eq (c : Dev nD) : k0_off9 c = ![1024 * (peer 0 c).val, 1024 * ((0 : Fin 4)).val] := by revert c; decide +kernel
theorem off10_eq (c : Dev nD) : k0_off10 c = ![1024 * (peer 0 c).val, 1024 * ((1 : Fin 4)).val] := by revert c; decide +kernel
theorem off11_eq (c : Dev nD) : k0_off11 c = ![1024 * (peer 0 c).val, 1024 * ((2 : Fin 4)).val] := by revert c; decide +kernel
theorem off12_eq (c : Dev nD) : k0_off12 c = ![1024 * (peer 0 c).val, 1024 * ((3 : Fin 4)).val] := by revert c; decide +kernel
theorem off13_eq (c : Dev nD) : k0_off13 c = ![1024 * (peer 1 c).val, 1024 * ((0 : Fin 4)).val] := by revert c; decide +kernel
theorem off14_eq (c : Dev nD) : k0_off14 c = ![1024 * (peer 1 c).val, 1024 * ((1 : Fin 4)).val] := by revert c; decide +kernel
theorem off15_eq (c : Dev nD) : k0_off15 c = ![1024 * (peer 1 c).val, 1024 * ((2 : Fin 4)).val] := by revert c; decide +kernel
theorem off16_eq (c : Dev nD) : k0_off16 c = ![1024 * (peer 1 c).val, 1024 * ((3 : Fin 4)).val] := by revert c; decide +kernel
theorem off17_eq (c : Dev nD) : k0_off17 c = ![1024 * (peer 2 c).val, 1024 * ((0 : Fin 4)).val] := by revert c; decide +kernel
theorem off18_eq (c : Dev nD) : k0_off18 c = ![1024 * (peer 2 c).val, 1024 * ((1 : Fin 4)).val] := by revert c; decide +kernel
theorem off19_eq (c : Dev nD) : k0_off19 c = ![1024 * (peer 2 c).val, 1024 * ((2 : Fin 4)).val] := by revert c; decide +kernel
theorem off20_eq (c : Dev nD) : k0_off20 c = ![1024 * (peer 2 c).val, 1024 * ((3 : Fin 4)).val] := by revert c; decide +kernel
theorem off21_eq (c : Dev nD) : k0_off21 c = ![1024 * (peer 3 c).val, 1024 * ((0 : Fin 4)).val] := by revert c; decide +kernel
theorem off22_eq (c : Dev nD) : k0_off22 c = ![1024 * (peer 3 c).val, 1024 * ((1 : Fin 4)).val] := by revert c; decide +kernel
theorem off23_eq (c : Dev nD) : k0_off23 c = ![1024 * (peer 3 c).val, 1024 * ((2 : Fin 4)).val] := by revert c; decide +kernel
theorem off24_eq (c : Dev nD) : k0_off24 c = ![1024 * (peer 3 c).val, 1024 * ((3 : Fin 4)).val] := by revert c; decide +kernel
theorem off25_eq (c : Dev nD) : k0_off25 c = ![1024 * (peer 4 c).val, 1024 * ((0 : Fin 4)).val] := by revert c; decide +kernel
theorem off26_eq (c : Dev nD) : k0_off26 c = ![1024 * (peer 4 c).val, 1024 * ((1 : Fin 4)).val] := by revert c; decide +kernel
theorem off27_eq (c : Dev nD) : k0_off27 c = ![1024 * (peer 4 c).val, 1024 * ((2 : Fin 4)).val] := by revert c; decide +kernel
theorem off28_eq (c : Dev nD) : k0_off28 c = ![1024 * (peer 4 c).val, 1024 * ((3 : Fin 4)).val] := by revert c; decide +kernel
theorem off29_eq (c : Dev nD) : k0_off29 c = ![1024 * (peer 5 c).val, 1024 * ((0 : Fin 4)).val] := by revert c; decide +kernel
theorem off30_eq (c : Dev nD) : k0_off30 c = ![1024 * (peer 5 c).val, 1024 * ((1 : Fin 4)).val] := by revert c; decide +kernel
theorem off31_eq (c : Dev nD) : k0_off31 c = ![1024 * (peer 5 c).val, 1024 * ((2 : Fin 4)).val] := by revert c; decide +kernel
theorem off32_eq (c : Dev nD) : k0_off32 c = ![1024 * (peer 5 c).val, 1024 * ((3 : Fin 4)).val] := by revert c; decide +kernel
theorem off33_eq (c : Dev nD) : k0_off33 c = ![1024 * (peer 6 c).val, 1024 * ((0 : Fin 4)).val] := by revert c; decide +kernel
theorem off34_eq (c : Dev nD) : k0_off34 c = ![1024 * (peer 6 c).val, 1024 * ((1 : Fin 4)).val] := by revert c; decide +kernel
theorem off35_eq (c : Dev nD) : k0_off35 c = ![1024 * (peer 6 c).val, 1024 * ((2 : Fin 4)).val] := by revert c; decide +kernel
theorem off36_eq (c : Dev nD) : k0_off36 c = ![1024 * (peer 6 c).val, 1024 * ((3 : Fin 4)).val] := by revert c; decide +kernel
theorem off37_eq (c : Dev nD) : k0_off37 c = ![1024 * (peer 7 c).val, 1024 * ((0 : Fin 4)).val] := by revert c; decide +kernel
theorem off38_eq (c : Dev nD) : k0_off38 c = ![1024 * (peer 7 c).val, 1024 * ((1 : Fin 4)).val] := by revert c; decide +kernel
theorem off39_eq (c : Dev nD) : k0_off39 c = ![1024 * (peer 7 c).val, 1024 * ((2 : Fin 4)).val] := by revert c; decide +kernel
theorem off40_eq (c : Dev nD) : k0_off40 c = ![1024 * (peer 7 c).val, 1024 * ((3 : Fin 4)).val] := by revert c; decide +kernel

/-! ## The accumulated output -/

theorem slab_emb {n : ℕ} (t : ℕ) (ht : t < n) (inb : ∀ a, (![t, 0, 0] : Fin 3 → ℕ) a + S1x1024x1024.size a ≤ (⟨3, ![n, 1024, 1024]⟩ : Shape).size a)
    (r k : Fin 1024) :
    (Rect.unit (s := ⟨3, ![n, 1024, 1024]⟩) ![t, 0, 0] S1x1024x1024.size inb).emb (ix3 (0 : Fin 1) r k) = (ix3 (⟨t, ht⟩ : Fin n) r k : (⟨3, ![n, 1024, 1024]⟩ : Shape).Idx) := by
  funext a; apply Fin.ext
  fin_cases a
  · show t + 1 * 0 = t; omega
  · show 0 + 1 * r.val = r.val; omega
  · show 0 + 1 * k.val = k.val; omega
theorem block_emb (nb : Fin 4) (o : Fin 2 → ℕ) (ho : o = ![0, 1024 * nb.val]) (inb : ∀ a, o a + S1024x1024.size a ≤ S1024x4096.size a) (r k : Fin 1024) :
    (Rect.unit (s := S1024x4096) o S1024x1024.size inb).emb (ix2 r k) = (ix2 r (col nb k) : S1024x4096.Idx) := by
  subst ho
  funext a; apply Fin.ext
  fin_cases a
  · show 0 + 1 * r.val = r.val; omega
  · show 1024 * nb.val + 1 * k.val = 1024 * nb.val + k.val; omega
theorem slab_ix (x : S1x1024x1024.Idx) : ∃ r k : Fin 1024, x = ix3 (0 : Fin 1) r k :=
  ⟨x 1, x 2, by funext a; fin_cases a; exact Subsingleton.elim (α := Fin 1) _ _; rfl; rfl⟩
theorem block_ix (x : S1024x1024.Idx) : ∃ r k : Fin 1024, x = ix2 r k := ⟨x 0, x 1, by funext a; fin_cases a <;> rfl⟩

/-- What the product of slot `t` reads: the slab received from the slot's partner, and the block of weights in the partner's rows. -/
def commV (c : Dev nD) (t : Fin 8) : Vec F S1x1024x1024 .bf16 := fun x => castX m (peer t c) c (x 1) (x 2)
def wV (c : Dev nD) (t : Fin 8) (nb : Fin 4) : Vec F S1x1024x1024 .f32 := fun x => wAt m c (ix2 (row (peer t c) (x 1)) (col nb (x 2)))

/-- Column block `nb` of the output after the products of slots `0` to `t`. -/
def accV (c : Dev nD) : ℕ → Fin 4 → FVec F S1024x1024 .f32
  | 0, nb => k0_pay19 (commV m c 0) (wV m c 0 nb)
  | t + 1, nb => k0_pay25 (commV m c (Fin.ofNat 8 (t + 1))) (wV m c (Fin.ofNat 8 (t + 1)) nb) (accV c t nb)

/-- The whole output after the products of slots `0` to `t`. -/
def accOut (c : Dev nD) (t : ℕ) : (cc0_stg0_0 : Ref sig .tc).ty.Contents (Elt F) :=
  fun i : S1024x4096.Idx => accV m c t ⟨(i 1).val / 1024, Nat.div_lt_of_lt_mul (i 1).isLt⟩ (ix2 (i 0) (⟨(i 1).val % 1024, Nat.mod_lt _ (by decide)⟩ : Fin 1024))

theorem accOut_col (c : Dev nD) (t : ℕ) (nb : Fin 4) (r k : Fin 1024) :
    accOut m c t (ix2 r (col nb k) : S1024x4096.Idx) = accV m c t nb (ix2 r k) := by
  have h1 : (⟨(col nb k).val / 1024, Nat.div_lt_of_lt_mul (col nb k).isLt⟩ : Fin 4) = nb := by
    apply Fin.ext; show (1024 * nb.val + k.val) / 1024 = nb.val; omega
  have h2 : (⟨(col nb k).val % 1024, Nat.mod_lt _ (by decide)⟩ : Fin 1024) = k := by
    apply Fin.ext; show (1024 * nb.val + k.val) % 1024 = k.val; omega
  show accV m c t ⟨(col nb k).val / 1024, _⟩ (ix2 r (⟨(col nb k).val % 1024, _⟩ : Fin 1024)) = _
  rw [h1, h2]

/-- What the loads before a product read. -/
theorem comm_read (c : Dev nD) (t : ℕ) (ht : t < 8) (inb : ∀ a, (![t, 0, 0] : Fin 3 → Nat) a + S1x1024x1024.size a ≤ S8x1024x1024.size a) :
    View.readAt (Elt F) (Memref.whole cc0_scratch0).view (Rect.unit (s := S8x1024x1024) ![t, 0, 0] S1x1024x1024.size inb).toLoadRect (commAt m c) = commV m c ⟨t, ht⟩ := by
  funext x; obtain ⟨r, k, rfl⟩ := slab_ix x
  exact congrArg (commAt m c) (slab_emb t ht inb r k)
theorem w_read (c : Dev nD) (t : Fin 8) (nb : Fin 4) (s : ℕ) (h : s < 2) (inb : ∀ a, (![s, 0, 0] : Fin 3 → Nat) a + S1x1024x1024.size a ≤ S2x1024x1024.size a)
    (o : Fin 2 → ℕ) (inbo) (ho : o = ![1024 * (peer t c).val, 1024 * nb.val]) (g : (cc0_scratch3 : Ref sig .tc).ty.Contents (Elt F)) (l) :
    View.readAt (Elt F) (Memref.whole cc0_scratch3).view (Rect.unit (s := S2x1024x1024) ![s, 0, 0] S1x1024x1024.size inb).toLoadRect
      ((wbufM s h).view.writes (Elt F) g (⟨Rect.whole S1024x1024, wCopy m c o inbo⟩ :: l)) = wV m c t nb := by
  funext x; obtain ⟨r, k, rfl⟩ := slab_ix x
  exact (wbuf_read s h inb g (wCopy m c o inbo) l r k).trans (wCopy_apply m c (peer t c) nb o inbo ho r k)
theorem out_read (c : Dev nD) (t : ℕ) (nb : Fin 4) (o : Fin 2 → ℕ) (ho : o = ![0, 1024 * nb.val]) (inb : ∀ a, o a + S1024x1024.size a ≤ S1024x4096.size a) :
    View.readAt (Elt F) (Memref.whole cc0_stg0_0).view (Rect.unit (s := S1024x4096) o S1024x1024.size inb).toLoadRect (accOut m c t) = accV m c t nb := by
  funext x; obtain ⟨r, k, rfl⟩ := block_ix x
  exact (congrArg (accOut m c t) (block_emb nb o ho inb r k)).trans (accOut_col m c t nb r k)

theorem first_piece (c : Dev nD) (nb : Fin 4) (s : ℕ) (h : s < 2) (inbc) (inb) (o : Fin 2 → ℕ) (inbo) (ho : o = ![1024 * (peer 0 c).val, 1024 * nb.val])
    (g : (cc0_scratch3 : Ref sig .tc).ty.Contents (Elt F)) (l) (p : Vec F S1x1024x1024 .bf16 → Vec F S1x1024x1024 .f32 → FVec F S1024x1024 .f32) (hp : p = k0_pay19) :
    p (View.readAt (Elt F) (Memref.whole cc0_scratch0).view (Rect.unit (s := S8x1024x1024) ![0, 0, 0] S1x1024x1024.size inbc).toLoadRect (commAt m c))
      (View.readAt (Elt F) (Memref.whole cc0_scratch3).view (Rect.unit (s := S2x1024x1024) ![s, 0, 0] S1x1024x1024.size inb).toLoadRect
        ((wbufM s h).view.writes (Elt F) g (⟨Rect.whole S1024x1024, wCopy m c o inbo⟩ :: l))) = accV m c 0 nb := by
  subst hp
  rw [comm_read m c 0 (by decide), w_read m c 0 nb s h inb o inbo ho]
  rfl
theorem next_piece (c : Dev nD) (t : ℕ) (ht : t + 1 < 8) (nb : Fin 4) (s : ℕ) (h : s < 2) (inbc) (inb) (o : Fin 2 → ℕ) (inbo) (ho : o = ![1024 * (peer ⟨t + 1, ht⟩ c).val, 1024 * nb.val])
    (g : (cc0_scratch3 : Ref sig .tc).ty.Contents (Elt F)) (l) (o' : Fin 2 → ℕ) (ho' : o' = ![0, 1024 * nb.val]) (inb')
    (p : Vec F S1x1024x1024 .bf16 → Vec F S1x1024x1024 .f32 → Vec F S1024x1024 .f32 → FVec F S1024x1024 .f32) (hp : p = k0_pay25) :
    p (View.readAt (Elt F) (Memref.whole cc0_scratch0).view (Rect.unit (s := S8x1024x1024) ![t + 1, 0, 0] S1x1024x1024.size inbc).toLoadRect (commAt m c))
      (View.readAt (Elt F) (Memref.whole cc0_scratch3).view (Rect.unit (s := S2x1024x1024) ![s, 0, 0] S1x1024x1024.size inb).toLoadRect
        ((wbufM s h).view.writes (Elt F) g (⟨Rect.whole S1024x1024, wCopy m c o inbo⟩ :: l)))
      (View.readAt (Elt F) (Memref.whole cc0_stg0_0).view (Rect.unit (s := S1024x4096) o' S1024x1024.size inb').toLoadRect (accOut m c t)) = accV m c (t + 1) nb := by
  subst hp
  rw [comm_read m c (t + 1) ht, w_read m c ⟨t + 1, ht⟩ nb s h inb o inbo ho, out_read m c t nb o' ho' inb']
  have e : (⟨t + 1, ht⟩ : Fin 8) = Fin.ofNat 8 (t + 1) := Fin.ext (Nat.mod_eq_of_lt ht).symm
  rw [e]
  rfl

/-- The four column blocks stored: the output holds the accumulated value. -/
theorem out_blocks (c : Dev nD) (t : ℕ) (i0 i1 i2 i3) (f : (cc0_stg0_0 : Ref sig .tc).ty.Contents (Elt F)) (w0 w1 w2 w3 : S1024x1024.Idx → F .f32)
    (h0 : w0 = accV m c t 0) (h1 : w1 = accV m c t 1) (h2 : w2 = accV m c t 2) (h3 : w3 = accV m c t 3) :
    ((Memref.whole cc0_stg0_0).view.loc (c : Thread nD τ) ↦{fullShare} (Memref.whole cc0_stg0_0 : Memref sig .tc .vmem S1024x4096 .f32).view.writes (Elt F) f
      [⟨Rect.unit (s := S1024x4096) ![0, 3072] S1024x1024.size i3, w3⟩, ⟨Rect.unit (s := S1024x4096) ![0, 2048] S1024x1024.size i2, w2⟩,
       ⟨Rect.unit (s := S1024x4096) ![0, 1024] S1024x1024.size i1, w1⟩, ⟨Rect.unit (s := S1024x4096) ![0, 0] S1024x1024.size i0, w0⟩] : sProp 𝕄)
    ⊢ (Memref.whole cc0_stg0_0).view.loc (c : Thread nD τ) ↦{fullShare} accOut m c t := by
  have key : ∀ (nb : Fin 4) (o : Fin 2 → ℕ) (ho : o = ![0, 1024 * nb.val]) (inb : ∀ a, o a + S1024x1024.size a ≤ S1024x4096.size a) (x : S1024x1024.Idx),
      accV m c t nb x = accOut m c t ((Rect.unit (s := S1024x4096) o S1024x1024.size inb).emb x) := by
    intro nb o ho inb x; obtain ⟨r, k, rfl⟩ := block_ix x
    exact ((congrArg (accOut m c t) (block_emb nb o ho inb r k)).trans (accOut_col m c t nb r k)).symm
  refine pts_pieces c cc0_stg0_0 Finset.univ f (accOut m c t) _ ?_ ?_
  · intro P hP
    rw [List.mem_cons, List.mem_cons, List.mem_cons, List.mem_singleton] at hP
    rcases hP with rfl | rfl | rfl | rfl
    · subst h3; exact key 3 _ rfl i3
    · subst h2; exact key 2 _ rfl i2
    · subst h1; exact key 1 _ rfl i1
    · subst h0; exact key 0 _ rfl i0
  · have mem : ∀ (o : ℕ) (inb) (i : S1024x4096.Idx), o ≤ (i 1).val → (i 1).val < o + 1024 → i ∈ (Rect.unit (s := S1024x4096) ![0, o] S1024x1024.size inb).set := by
      intro o inb i h h'
      refine Rect.mem_set_unit.mpr ?_
      intro a; fin_cases a
      · exact ⟨Nat.zero_le _, by show (i 0).val < 0 + 1024; have := (i 0).isLt; exact (Nat.zero_add _).symm ▸ this⟩
      · exact ⟨h, h'⟩
    intro i _
    have hi : (i 1).val < 4096 := (i 1).isLt
    by_cases g3 : 3072 ≤ (i 1).val
    · exact ⟨_, List.mem_cons_self, mem 3072 i3 i g3 (by omega)⟩
    by_cases g2 : 2048 ≤ (i 1).val
    · exact ⟨_, List.mem_cons_of_mem _ List.mem_cons_self, mem 2048 i2 i g2 (by omega)⟩
    by_cases g1 : 1024 ≤ (i 1).val
    · exact ⟨_, List.mem_cons_of_mem _ (List.mem_cons_of_mem _ List.mem_cons_self), mem 1024 i1 i g1 (by omega)⟩
    · exact ⟨_, List.mem_cons_of_mem _ (List.mem_cons_of_mem _ (List.mem_cons_of_mem _ List.mem_cons_self)), mem 0 i0 i (Nat.zero_le _) (by omega)⟩

/-- The products of slot 0 stored. -/
theorem out_first (c : Dev nD) (i0 i1 i2 i3 ic iw0 iw1) (o0 o1 o2 o3 : Fin 2 → ℕ) (j0 j1 j2 j3)
    (e0 : o0 = ![1024 * (peer 0 c).val, 1024 * ((0 : Fin 4)).val])
    (e1 : o1 = ![1024 * (peer 0 c).val, 1024 * ((1 : Fin 4)).val])
    (e2 : o2 = ![1024 * (peer 0 c).val, 1024 * ((2 : Fin 4)).val])
    (e3 : o3 = ![1024 * (peer 0 c).val, 1024 * ((3 : Fin 4)).val])
    (p0 p1 p2 p3 : Vec F S1x1024x1024 .bf16 → Vec F S1x1024x1024 .f32 → FVec F S1024x1024 .f32)
    (q0 : p0 = k0_pay19) (q1 : p1 = k0_pay19) (q2 : p2 = k0_pay19) (q3 : p3 = k0_pay19)
    (g0 g1 g2 g3 : (cc0_scratch3 : Ref sig .tc).ty.Contents (Elt F)) (l0 l1 l2 l3) (f : (cc0_stg0_0 : Ref sig .tc).ty.Contents (Elt F)) :
    ((Memref.whole cc0_stg0_0).view.loc (c : Thread nD τ) ↦{fullShare} (Memref.whole cc0_stg0_0 : Memref sig .tc .vmem S1024x4096 .f32).view.writes (Elt F) f
      [⟨Rect.unit (s := S1024x4096) ![0, 3072] S1024x1024.size i3, p3 (View.readAt (Elt F) (Memref.whole cc0_scratch0).view (Rect.unit (s := S8x1024x1024) ![0, 0, 0] S1x1024x1024.size ic).toLoadRect (commAt m c))
        (View.readAt (Elt F) (Memref.whole cc0_scratch3).view (Rect.unit (s := S2x1024x1024) ![1, 0, 0] S1x1024x1024.size iw1).toLoadRect ((wbufM 1 Nat.one_lt_two).view.writes (Elt F) g3 (⟨Rect.whole S1024x1024, wCopy m c o3 j3⟩ :: l3)))⟩,
       ⟨Rect.unit (s := S1024x4096) ![0, 2048] S1024x1024.size i2, p2 (View.readAt (Elt F) (Memref.whole cc0_scratch0).view (Rect.unit (s := S8x1024x1024) ![0, 0, 0] S1x1024x1024.size ic).toLoadRect (commAt m c))
        (View.readAt (Elt F) (Memref.whole cc0_scratch3).view (Rect.unit (s := S2x1024x1024) ![0, 0, 0] S1x1024x1024.size iw0).toLoadRect ((wbufM 0 Nat.zero_lt_two).view.writes (Elt F) g2 (⟨Rect.whole S1024x1024, wCopy m c o2 j2⟩ :: l2)))⟩,
       ⟨Rect.unit (s := S1024x4096) ![0, 1024] S1024x1024.size i1, p1 (View.readAt (Elt F) (Memref.whole cc0_scratch0).view (Rect.unit (s := S8x1024x1024) ![0, 0, 0] S1x1024x1024.size ic).toLoadRect (commAt m c))
        (View.readAt (Elt F) (Memref.whole cc0_scratch3).view (Rect.unit (s := S2x1024x1024) ![1, 0, 0] S1x1024x1024.size iw1).toLoadRect ((wbufM 1 Nat.one_lt_two).view.writes (Elt F) g1 (⟨Rect.whole S1024x1024, wCopy m c o1 j1⟩ :: l1)))⟩,
       ⟨Rect.unit (s := S1024x4096) ![0, 0] S1024x1024.size i0, p0 (View.readAt (Elt F) (Memref.whole cc0_scratch0).view (Rect.unit (s := S8x1024x1024) ![0, 0, 0] S1x1024x1024.size ic).toLoadRect (commAt m c))
        (View.readAt (Elt F) (Memref.whole cc0_scratch3).view (Rect.unit (s := S2x1024x1024) ![0, 0, 0] S1x1024x1024.size iw0).toLoadRect ((wbufM 0 Nat.zero_lt_two).view.writes (Elt F) g0 (⟨Rect.whole S1024x1024, wCopy m c o0 j0⟩ :: l0)))⟩] : sProp 𝕄)
    ⊢ (Memref.whole cc0_stg0_0).view.loc (c : Thread nD τ) ↦{fullShare} accOut m c 0 :=
  out_blocks m c 0 i0 i1 i2 i3 f _ _ _ _
    (first_piece m c 0 0 Nat.zero_lt_two ic iw0 o0 j0 e0 g0 l0 p0 q0)
    (first_piece m c 1 1 Nat.one_lt_two ic iw1 o1 j1 e1 g1 l1 p1 q1)
    (first_piece m c 2 0 Nat.zero_lt_two ic iw0 o2 j2 e2 g2 l2 p2 q2)
    (first_piece m c 3 1 Nat.one_lt_two ic iw1 o3 j3 e3 g3 l3 p3 q3)

/-- The products of a later slot added and stored. -/
theorem out_next (c : Dev nD) (t : ℕ) (ht : t + 1 < 8) (i0 i1 i2 i3 ic iw0 iw1) (o0 o1 o2 o3 : Fin 2 → ℕ) (j0 j1 j2 j3)
    (e0 : o0 = ![1024 * (peer ⟨t + 1, ht⟩ c).val, 1024 * ((0 : Fin 4)).val])
    (e1 : o1 = ![1024 * (peer ⟨t + 1, ht⟩ c).val, 1024 * ((1 : Fin 4)).val])
    (e2 : o2 = ![1024 * (peer ⟨t + 1, ht⟩ c).val, 1024 * ((2 : Fin 4)).val])
    (e3 : o3 = ![1024 * (peer ⟨t + 1, ht⟩ c).val, 1024 * ((3 : Fin 4)).val])
    (p0 p1 p2 p3 : Vec F S1x1024x1024 .bf16 → Vec F S1x1024x1024 .f32 → Vec F S1024x1024 .f32 → FVec F S1024x1024 .f32)
    (q0 : p0 = k0_pay25) (q1 : p1 = k0_pay25) (q2 : p2 = k0_pay25) (q3 : p3 = k0_pay25)
    (g0 g1 g2 g3 : (cc0_scratch3 : Ref sig .tc).ty.Contents (Elt F)) (l0 l1 l2 l3) (f : (cc0_stg0_0 : Ref sig .tc).ty.Contents (Elt F)) :
    ((Memref.whole cc0_stg0_0).view.loc (c : Thread nD τ) ↦{fullShare} (Memref.whole cc0_stg0_0 : Memref sig .tc .vmem S1024x4096 .f32).view.writes (Elt F) f
      [⟨Rect.unit (s := S1024x4096) ![0, 3072] S1024x1024.size i3, p3 (View.readAt (Elt F) (Memref.whole cc0_scratch0).view (Rect.unit (s := S8x1024x1024) ![t + 1, 0, 0] S1x1024x1024.size ic).toLoadRect (commAt m c))
        (View.readAt (Elt F) (Memref.whole cc0_scratch3).view (Rect.unit (s := S2x1024x1024) ![1, 0, 0] S1x1024x1024.size iw1).toLoadRect ((wbufM 1 Nat.one_lt_two).view.writes (Elt F) g3 (⟨Rect.whole S1024x1024, wCopy m c o3 j3⟩ :: l3)))
        (View.readAt (Elt F) (Memref.whole cc0_stg0_0).view (Rect.unit (s := S1024x4096) ![0, 3072] S1024x1024.size i3).toLoadRect (accOut m c t))⟩,
       ⟨Rect.unit (s := S1024x4096) ![0, 2048] S1024x1024.size i2, p2 (View.readAt (Elt F) (Memref.whole cc0_scratch0).view (Rect.unit (s := S8x1024x1024) ![t + 1, 0, 0] S1x1024x1024.size ic).toLoadRect (commAt m c))
        (View.readAt (Elt F) (Memref.whole cc0_scratch3).view (Rect.unit (s := S2x1024x1024) ![0, 0, 0] S1x1024x1024.size iw0).toLoadRect ((wbufM 0 Nat.zero_lt_two).view.writes (Elt F) g2 (⟨Rect.whole S1024x1024, wCopy m c o2 j2⟩ :: l2)))
        (View.readAt (Elt F) (Memref.whole cc0_stg0_0).view (Rect.unit (s := S1024x4096) ![0, 2048] S1024x1024.size i2).toLoadRect (accOut m c t))⟩,
       ⟨Rect.unit (s := S1024x4096) ![0, 1024] S1024x1024.size i1, p1 (View.readAt (Elt F) (Memref.whole cc0_scratch0).view (Rect.unit (s := S8x1024x1024) ![t + 1, 0, 0] S1x1024x1024.size ic).toLoadRect (commAt m c))
        (View.readAt (Elt F) (Memref.whole cc0_scratch3).view (Rect.unit (s := S2x1024x1024) ![1, 0, 0] S1x1024x1024.size iw1).toLoadRect ((wbufM 1 Nat.one_lt_two).view.writes (Elt F) g1 (⟨Rect.whole S1024x1024, wCopy m c o1 j1⟩ :: l1)))
        (View.readAt (Elt F) (Memref.whole cc0_stg0_0).view (Rect.unit (s := S1024x4096) ![0, 1024] S1024x1024.size i1).toLoadRect (accOut m c t))⟩,
       ⟨Rect.unit (s := S1024x4096) ![0, 0] S1024x1024.size i0, p0 (View.readAt (Elt F) (Memref.whole cc0_scratch0).view (Rect.unit (s := S8x1024x1024) ![t + 1, 0, 0] S1x1024x1024.size ic).toLoadRect (commAt m c))
        (View.readAt (Elt F) (Memref.whole cc0_scratch3).view (Rect.unit (s := S2x1024x1024) ![0, 0, 0] S1x1024x1024.size iw0).toLoadRect ((wbufM 0 Nat.zero_lt_two).view.writes (Elt F) g0 (⟨Rect.whole S1024x1024, wCopy m c o0 j0⟩ :: l0)))
        (View.readAt (Elt F) (Memref.whole cc0_stg0_0).view (Rect.unit (s := S1024x4096) ![0, 0] S1024x1024.size i0).toLoadRect (accOut m c t))⟩] : sProp 𝕄)
    ⊢ (Memref.whole cc0_stg0_0).view.loc (c : Thread nD τ) ↦{fullShare} accOut m c (t + 1) :=
  out_blocks m c (t + 1) i0 i1 i2 i3 f _ _ _ _
    (next_piece m c t ht 0 0 Nat.zero_lt_two ic iw0 o0 j0 e0 g0 l0 ![0, 0] rfl i0 p0 q0)
    (next_piece m c t ht 1 1 Nat.one_lt_two ic iw1 o1 j1 e1 g1 l1 ![0, 1024] rfl i1 p1 q1)
    (next_piece m c t ht 2 0 Nat.zero_lt_two ic iw0 o2 j2 e2 g2 l2 ![0, 2048] rfl i2 p2 q2)
    (next_piece m c t ht 3 1 Nat.one_lt_two ic iw1 o3 j3 e3 g3 l3 ![0, 3072] rfl i3 p3 q3)

end Cert.KernelIdeal.Exch

end
-- ==== Proof.Body.lean ====
module

public import proofs.«01_k».proof.Proof.Output

@[expose] public section

noncomputable section

/-! The run of a device's body. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

abbrev bodyProg : Prog (TpuEff nD τ sig (Elt F) Λ₀ .tc) PUnit :=
  cc0_body (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ
theorem bigSep_two (Φ : Fin 2 → sProp 𝕄) : bigSep Finset.univ Φ = iprop(Φ 0 ∗ Φ 1) := bigSep_univ_eq_bigSepL [0, 1] (by decide) (by decide) Φ

/-- What the copies of a device's arguments read through. -/
def args (c : Dev nD) : sProp 𝕄 := iprop(
  ((Memref.whole main_arg0).view.loc (c : Thread nD τ) ↦{Transfers.shareTokN fullShare 17} m ((c : Thread nD τ).loc main_arg0))
  ∗ ((Memref.whole main_arg0).view.loc (c : Thread nD τ) ↦{Transfers.shareTokN fullShare 18} m ((c : Thread nD τ).loc main_arg0))
  ∗ ((Memref.whole main_arg1).view.loc (c : Thread nD τ) ↦{Transfers.shareTokN fullShare 19} m ((c : Thread nD τ).loc main_arg1))
  ∗ ((Memref.whole main_arg1).view.loc (c : Thread nD τ) ↦{Transfers.shareTokN fullShare 20} m ((c : Thread nD τ).loc main_arg1)))
/-- The semaphores of its local copies, at rest. -/
def local0 (c : Dev nD) : sProp 𝕄 := iprop(semVal ((c : Thread nD τ), .dma ⟨17, by decide⟩) 0 ∗ semVal ((c : Thread nD τ), .dma ⟨18, by decide⟩) 0
  ∗ semVal ((c : Thread nD τ), .dma ⟨19, by decide⟩) 0 ∗ semVal ((c : Thread nD τ), .dma ⟨20, by decide⟩) 0)

/-- What a device starts its body with, beside the arguments and the output: its scratch slab by slab, -/
def slabs (c : Dev nD) (fc : (cc0_scratch0 : Ref sig .tc).ty.Contents (Elt F)) (fs : (cc0_scratch1 : Ref sig .tc).ty.Contents (Elt F))
    (fg : (cc0_scratch2 : Ref sig .tc).ty.Contents (Elt F)) (fw : (cc0_scratch3 : Ref sig .tc).ty.Contents (Elt F)) : sProp 𝕄 := iprop(
  (bigSep Finset.univ fun t : Fin 8 => commPts c t.val t.isLt fc) ∗ (bigSep Finset.univ fun j : Fin 7 => sbufPts c j.val j.isLt fs)
  ∗ (bigSep Finset.univ fun s : Fin 2 => stagePts c s.val s.isLt fg) ∗ (bigSep Finset.univ fun s : Fin 2 => wbufPts c s.val s.isLt fw))
/-- its part in the exchange: the duties of its signals and its transfers, and its own cells to wait on; -/
def duty (c : Dev nD) : sProp 𝕄 := iprop(
  (bigSep Finset.univ fun j : Fin 7 => dutyTok ER (barCell (peer j.succ c)) 0 j)
  ∗ (bigSep Finset.univ fun j : Fin 7 => dutyTok ER (sndCell c j) 0 0)
  ∗ (bigSep Finset.univ fun j : Fin 7 => dutyTok ER (rcvCell (peer j.succ c) j) 0 0)
  ∗ (bigSep Finset.univ fun j : Fin 7 => atPos ER (sndCell c j) 0 ∅ 0)
  ∗ (bigSep Finset.univ fun j : Fin 7 => atPos ER (rcvCell c j) 0 ∅ 0)
  ∗ (bigSep Finset.univ fun j : Fin 7 => cred (tallyAt (rcvCell c j) true N))
  ∗ cred (tallyAt (barCell c) true 7) ∗ atPos ER (barCell c) 0 ∅ 0)
/-- and what it ends with. -/
def slabsEnd (c : Dev nD) : sProp 𝕄 := iprop(
  (bigSep Finset.univ fun t : Fin 8 => iprop(∃ f, commPts (F := F) c t.val t.isLt f)) ∗ (bigSep Finset.univ fun j : Fin 7 => iprop(∃ f, sbufPts (F := F) c j.val j.isLt f))
  ∗ (bigSep Finset.univ fun s : Fin 2 => iprop(∃ f, stagePts (F := F) c s.val s.isLt f)) ∗ (bigSep Finset.univ fun s : Fin 2 => iprop(∃ f, wbufPts (F := F) c s.val s.isLt f)))
def ends (c : Dev nD) : sProp 𝕄 := iprop(
  (∃ W, owes (c : Thread nD τ) 0 W) ∗ ((Memref.whole cc0_stg0_0).view.loc (c : Thread nD τ) ↦{fullShare} accOut m c 7) ∗ args m c ∗ local0 c ∗ slabsEnd c
  ∗ (bigSep Finset.univ fun j : Fin 7 => semVal (sndCell c j) 0) ∗ (bigSep Finset.univ fun j : Fin 7 => semVal (rcvCell c j) 0) ∗ atPos ER (barCell c) 1 ∅ 0)

set_option maxHeartbeats 8000000 in
/-- The body runs: from its part in the exchange to the output accumulated over all slots. -/
theorem run0 (K : Dev nD × CK → ℕ) (c : Dev nD) (W : Waits sig Bool) (Q : PUnit → sProp 𝕄)
    (fc fs fg fw) (fo : (cc0_stg0_0 : Ref sig .tc).ty.Contents (Elt F)) :
    iprop(records m K ∗ levAts L lv ∗ owes (c : Thread nD τ) (O₀ c) W
      ∗ (((commM 0 (by decide)).view.loc (c : Thread nD τ) ↦[(commM 0 (by decide)).view.set]{fullShare} fc) ∗ commPts c 1 (by decide) fc ∗ commPts c 2 (by decide) fc ∗ commPts c 3 (by decide) fc ∗ commPts c 4 (by decide) fc ∗ commPts c 5 (by decide) fc ∗ commPts c 6 (by decide) fc ∗ commPts c 7 (by decide) fc)
      ∗ (sbufPts c 0 (by decide) fs ∗ sbufPts c 1 (by decide) fs ∗ sbufPts c 2 (by decide) fs ∗ sbufPts c 3 (by decide) fs ∗ sbufPts c 4 (by decide) fs ∗ sbufPts c 5 (by decide) fs ∗ sbufPts c 6 (by decide) fs)
      ∗ (stagePts c 0 (by decide) fg ∗ stagePts c 1 (by decide) fg ∗ wbufPts c 0 (by decide) fw ∗ wbufPts c 1 (by decide) fw)
      ∗ ((Memref.whole cc0_stg0_0).view.loc (c : Thread nD τ) ↦{fullShare} fo)
      ∗ args m c ∗ local0 c ∗ duty c ∗ (ends m c -∗ Q ⟨⟩))
    ⊢ wp frame (wpE (defs₀ (F := F)) 𝒱₀ (c : Thread nD τ) none) Set.univ (bodyProg (F := F)) Q := by
  unfold args local0 duty
  rw [bigSep_fin7, bigSep_fin7, bigSep_fin7, bigSep_fin7, bigSep_fin7, bigSep_fin7]
  unfold sbufPts stagePts wbufPts
  iintro ⟨#HR, #Hlev, HO, ⟨Hc0, Hc1, Hc2, Hc3, Hc4, Hc5, Hc6, Hc7⟩, ⟨Hs0, Hs1, Hs2, Hs3, Hs4, Hs5, Hs6⟩, ⟨Hg0, Hg1, Hw0, Hw1⟩, Hout, ⟨Hx0, Hx1, Hv0, Hv1⟩, ⟨Hm17, Hm18, Hm19, Hm20⟩,
    ⟨⟨Tb0, Tb1, Tb2, Tb3, Tb4, Tb5, Tb6⟩, ⟨Ts0, Ts1, Ts2, Ts3, Ts4, Ts5, Ts6⟩, ⟨Tr0, Tr1, Tr2, Tr3, Tr4, Tr5, Tr6⟩, ⟨As0, As1, As2, As3, As4, As5, As6⟩, ⟨Ar0, Ar1, Ar2, Ar3, Ar4, Ar5, Ar6⟩, ⟨Cr0, Cr1, Cr2, Cr3, Cr4, Cr5, Cr6⟩, Cb, Ab⟩, HQ⟩
  unfold bodyProg
  have hR := mayWaits_R (F := F) c
  sl_exec_parts
  iapply (signal_step m K c 0 _ (dev1_eq c) [1, 2, 3, 4, 5, 6] W _ (by decide) fc) $$ [HO Tb0 Hc1]
  · isplitr; · iexact HR
    isplitl [HO]; · iexact HO
    isplitl [Tb0]; · iexact Tb0
    iexact Hc1
  iintro HO
  sl_exec_parts
  iapply (signal_step m K c 1 _ (dev2_eq c) [2, 3, 4, 5, 6] W _ (by decide) fc) $$ [HO Tb1 Hc2]
  · isplitr; · iexact HR
    isplitl [HO]; · iexact HO
    isplitl [Tb1]; · iexact Tb1
    iexact Hc2
  iintro HO
  sl_exec_parts
  iapply (signal_step m K c 2 _ (dev3_eq c) [3, 4, 5, 6] W _ (by decide) fc) $$ [HO Tb2 Hc3]
  · isplitr; · iexact HR
    isplitl [HO]; · iexact HO
    isplitl [Tb2]; · iexact Tb2
    iexact Hc3
  iintro HO
  sl_exec_parts
  iapply (signal_step m K c 3 _ (dev4_eq c) [4, 5, 6] W _ (by decide) fc) $$ [HO Tb3 Hc4]
  · isplitr; · iexact HR
    isplitl [HO]; · iexact HO
    isplitl [Tb3]; · iexact Tb3
    iexact Hc4
  iintro HO
  sl_exec_parts
  iapply (signal_step m K c 4 _ (dev5_eq c) [5, 6] W _ (by decide) fc) $$ [HO Tb4 Hc5]
  · isplitr; · iexact HR
    isplitl [HO]; · iexact HO
    isplitl [Tb4]; · iexact Tb4
    iexact Hc5
  iintro HO
  sl_exec_parts
  iapply (signal_step m K c 5 _ (dev6_eq c) [6] W _ (by decide) fc) $$ [HO Tb5 Hc6]
  · isplitr; · iexact HR
    isplitl [HO]; · iexact HO
    isplitl [Tb5]; · iexact Tb5
    iexact Hc6
  iintro HO
  sl_exec_parts
  iapply (signal_step m K c 6 _ (dev7_eq c) [] W _ (by decide) fc) $$ [HO Tb6 Hc7]
  · isplitr; · iexact HR
    isplitl [HO]; · iexact HO
    isplitl [Tb6]; · iexact Tb6
    iexact Hc7
  iintro HO
  sl_exec_parts
  iapply (barrier_step m K c [6, 0, 1, 2, 3, 4, 5] W _ (by decide)) $$ [Cb HO Ab]
  · isplitr; · iexact HR
    isplitr; · iexact Hlev
    isplitl [Cb]; · iexact Cb
    isplitl [HO]; · iexact HO
    iexact Ab
  rw [bigSep_fin7]
  iintro ⟨HO, Ab, Hd0, Hd1, Hd2, Hd3, Hd4, Hd5, Hd6⟩
  sl_exec_parts
  ihave Hs6 : sbufPts c 6 (by decide) (sendAt m c) $$ [Hs6]
  · iapply (send_fill m c 6 _ _ _ _ _ _ _ _ _ (off1a c) (off1b c) k0_pay1 k0_pay2 rfl rfl _ _ _ _ fs); iexact Hs6
  iapply (send_step m K c 6 _ (dev8_eq c) [0, 1, 2, 3, 4, 5] _) $$ [Hs6 Hd6 HO Ts6 Tr6]
  · isplitr; · iexact HR
    isplitl [Hs6]; · iexact Hs6
    isplitl [Hd6]; · iexact Hd6
    isplitl [HO]; · iexact HO
    isplitl [Ts6]; · iexact Ts6
    iexact Tr6
  iintro ⟨Cs6, HO⟩
  set_option sl_exec.stopBefore "k0_part16" in sl_exec_parts
  ihave Hs0 : sbufPts c 0 (by decide) (sendAt m c) $$ [Hs0]
  · iapply (send_fill m c 0 _ _ _ _ _ _ _ _ _ (off2a c) (off2b c) k0_pay3 k0_pay4 rfl rfl _ _ _ _ fs); iexact Hs0
  iapply (send_step m K c 0 _ (dev9_eq c) [1, 2, 3, 4, 5] _) $$ [Hs0 Hd0 HO Ts0 Tr0]
  · isplitr; · iexact HR
    isplitl [Hs0]; · iexact Hs0
    isplitl [Hd0]; · iexact Hd0
    isplitl [HO]; · iexact HO
    isplitl [Ts0]; · iexact Ts0
    iexact Tr0
  iintro ⟨Cs0, HO⟩
  set_option sl_exec.stopBefore "k0_part16" in sl_exec_parts
  ihave Hs1 : sbufPts c 1 (by decide) (sendAt m c) $$ [Hs1]
  · iapply (send_fill m c 1 _ _ _ _ _ _ _ _ _ (off3a c) (off3b c) k0_pay5 k0_pay6 rfl rfl _ _ _ _ fs); iexact Hs1
  iapply (send_step m K c 1 _ (dev10_eq c) [2, 3, 4, 5] _) $$ [Hs1 Hd1 HO Ts1 Tr1]
  · isplitr; · iexact HR
    isplitl [Hs1]; · iexact Hs1
    isplitl [Hd1]; · iexact Hd1
    isplitl [HO]; · iexact HO
    isplitl [Ts1]; · iexact Ts1
    iexact Tr1
  iintro ⟨Cs1, HO⟩
  set_option sl_exec.stopBefore "k0_part16" in sl_exec_parts
  ihave Hs2 : sbufPts c 2 (by decide) (sendAt m c) $$ [Hs2]
  · iapply (send_fill m c 2 _ _ _ _ _ _ _ _ _ (off4a c) (off4b c) k0_pay7 k0_pay8 rfl rfl _ _ _ _ fs); iexact Hs2
  iapply (send_step m K c 2 _ (dev11_eq c) [3, 4, 5] _) $$ [Hs2 Hd2 HO Ts2 Tr2]
  · isplitr; · iexact HR
    isplitl [Hs2]; · iexact Hs2
    isplitl [Hd2]; · iexact Hd2
    isplitl [HO]; · iexact HO
    isplitl [Ts2]; · iexact Ts2
    iexact Tr2
  iintro ⟨Cs2, HO⟩
  set_option sl_exec.stopBefore "k0_part16" in sl_exec_parts
  ihave Hs3 : sbufPts c 3 (by decide) (sendAt m c) $$ [Hs3]
  · iapply (send_fill m c 3 _ _ _ _ _ _ _ _ _ (off5a c) (off5b c) k0_pay9 k0_pay10 rfl rfl _ _ _ _ fs); iexact Hs3
  iapply (send_step m K c 3 _ (dev12_eq c) [4, 5] _) $$ [Hs3 Hd3 HO Ts3 Tr3]
  · isplitr; · iexact HR
    isplitl [Hs3]; · iexact Hs3
    isplitl [Hd3]; · iexact Hd3
    isplitl [HO]; · iexact HO
    isplitl [Ts3]; · iexact Ts3
    iexact Tr3
  iintro ⟨Cs3, HO⟩
  set_option sl_exec.stopBefore "k0_part16" in sl_exec_parts
  ihave Hs4 : sbufPts c 4 (by decide) (sendAt m c) $$ [Hs4]
  · iapply (send_fill m c 4 _ _ _ _ _ _ _ _ _ (off6a c) (off6b c) k0_pay11 k0_pay12 rfl rfl _ _ _ _ fs); iexact Hs4
  iapply (send_step m K c 4 _ (dev13_eq c) [5] _) $$ [Hs4 Hd4 HO Ts4 Tr4]
  · isplitr; · iexact HR
    isplitl [Hs4]; · iexact Hs4
    isplitl [Hd4]; · iexact Hd4
    isplitl [HO]; · iexact HO
    isplitl [Ts4]; · iexact Ts4
    iexact Tr4
  iintro ⟨Cs4, HO⟩
  set_option sl_exec.stopBefore "k0_part16" in sl_exec_parts
  ihave Hs5 : sbufPts c 5 (by decide) (sendAt m c) $$ [Hs5]
  · iapply (send_fill m c 5 _ _ _ _ _ _ _ _ _ (off7a c) (off7b c) k0_pay13 (fun v => k0_pay15 (k0_pay14 v)) rfl rfl _ _ _ _ fs); iexact Hs5
  iapply (send_step m K c 5 _ (dev14_eq c) [] _) $$ [Hs5 Hd5 HO Ts5 Tr5]
  · isplitr; · iexact HR
    isplitl [Hs5]; · iexact Hs5
    isplitl [Hd5]; · iexact Hd5
    isplitl [HO]; · iexact HO
    isplitl [Ts5]; · iexact Ts5
    iexact Tr5
  iintro ⟨Cs5, HO⟩
  set_option sl_exec.stopBefore "k0_part16" in sl_exec_parts
  ihave Hc0 : ((commM 0 (by decide)).view.loc (c : Thread nD τ) ↦[(commM 0 (by decide)).view.set]{fullShare} commAt m c) $$ [Hc0]
  · iapply (own_fill m c _ _ _ _ _ _ _ _ (off8a c) (off8b c) (fun v => k0_pay17 (k0_pay16 v)) k0_pay18 rfl rfl _ _ _ _ fc); iexact Hc0
  sl_exec_parts
  ihave Hout : ((Memref.whole cc0_stg0_0).view.loc (c : Thread nD τ) ↦{fullShare} accOut m c 0) $$ [Hout]
  · iapply (out_first m c _ _ _ _ _ _ _ _ _ _ _ _ _ _ _ (off9_eq c) (off10_eq c) (off11_eq c) (off12_eq c)
      k0_pay19 (fun x w => k0_pay22 (k0_pay20 x) (k0_pay21 w) (constant S1024x1024 .f32 0x00000000#32)) k0_pay23 k0_pay24 rfl rfl rfl rfl _ _ _ _ _ _ _ _ fo); iexact Hout
  iapply (recv_step m K c 0 _) $$ [Cr0 HO Ar0]
  · isplitr; · iexact HR
    isplitl [Cr0]; · iexact Cr0
    isplitl [HO]; · iexact HO
    iexact Ar0
  unfold commPts
  iintro ⟨HO, Zr0, Hc1⟩
  sl_exec_parts
  ihave Hout : ((Memref.whole cc0_stg0_0).view.loc (c : Thread nD τ) ↦{fullShare} accOut m c 1) $$ [Hout]
  · iapply (out_next m c 0 (by decide) _ _ _ _ _ _ _ _ _ _ _ _ _ _ _ (off13_eq c) (off14_eq c) (off15_eq c) (off16_eq c)
      k0_pay25 k0_pay26 k0_pay27 k0_pay28 rfl rfl rfl rfl _ _ _ _ _ _ _ _ (accOut m c 0)); iexact Hout
  iapply (recv_step m K c 1 _) $$ [Cr1 HO Ar1]
  · isplitr; · iexact HR
    isplitl [Cr1]; · iexact Cr1
    isplitl [HO]; · iexact HO
    iexact Ar1
  unfold commPts
  iintro ⟨HO, Zr1, Hc2⟩
  sl_exec_parts
  ihave Hout : ((Memref.whole cc0_stg0_0).view.loc (c : Thread nD τ) ↦{fullShare} accOut m c 2) $$ [Hout]
  · iapply (out_next m c 1 (by decide) _ _ _ _ _ _ _ _ _ _ _ _ _ _ _ (off17_eq c) (off18_eq c) (off19_eq c) (off20_eq c)
      k0_pay29 k0_pay30 k0_pay31 (fun x w o => k0_pay33 (k0_pay32 x) w o) rfl rfl rfl rfl _ _ _ _ _ _ _ _ (accOut m c 1)); iexact Hout
  iapply (recv_step m K c 2 _) $$ [Cr2 HO Ar2]
  · isplitr; · iexact HR
    isplitl [Cr2]; · iexact Cr2
    isplitl [HO]; · iexact HO
    iexact Ar2
  unfold commPts
  iintro ⟨HO, Zr2, Hc3⟩
  sl_exec_parts
  ihave Hout : ((Memref.whole cc0_stg0_0).view.loc (c : Thread nD τ) ↦{fullShare} accOut m c 3) $$ [Hout]
  · iapply (out_next m c 2 (by decide) _ _ _ _ _ _ _ _ _ _ _ _ _ _ _ (off21_eq c) (off22_eq c) (off23_eq c) (off24_eq c)
      k0_pay34 k0_pay35 k0_pay36 k0_pay37 rfl rfl rfl rfl _ _ _ _ _ _ _ _ (accOut m c 2)); iexact Hout
  iapply (recv_step m K c 3 _) $$ [Cr3 HO Ar3]
  · isplitr; · iexact HR
    isplitl [Cr3]; · iexact Cr3
    isplitl [HO]; · iexact HO
    iexact Ar3
  unfold commPts
  iintro ⟨HO, Zr3, Hc4⟩
  sl_exec_parts
  ihave Hout : ((Memref.whole cc0_stg0_0).view.loc (c : Thread nD τ) ↦{fullShare} accOut m c 4) $$ [Hout]
  · iapply (out_next m c 3 (by decide) _ _ _ _ _ _ _ _ _ _ _ _ _ _ _ (off25_eq c) (off26_eq c) (off27_eq c) (off28_eq c)
      k0_pay38 k0_pay39 (fun x w o => k0_pay41 (k0_pay40 x) w o) k0_pay42 rfl rfl rfl rfl _ _ _ _ _ _ _ _ (accOut m c 3)); iexact Hout
  iapply (recv_step m K c 4 _) $$ [Cr4 HO Ar4]
  · isplitr; · iexact HR
    isplitl [Cr4]; · iexact Cr4
    isplitl [HO]; · iexact HO
    iexact Ar4
  unfold commPts
  iintro ⟨HO, Zr4, Hc5⟩
  sl_exec_parts
  ihave Hout : ((Memref.whole cc0_stg0_0).view.loc (c : Thread nD τ) ↦{fullShare} accOut m c 5) $$ [Hout]
  · iapply (out_next m c 4 (by decide) _ _ _ _ _ _ _ _ _ _ _ _ _ _ _ (off29_eq c) (off30_eq c) (off31_eq c) (off32_eq c)
      k0_pay43 k0_pay44 k0_pay45 k0_pay46 rfl rfl rfl rfl _ _ _ _ _ _ _ _ (accOut m c 4)); iexact Hout
  iapply (recv_step m K c 5 _) $$ [Cr5 HO Ar5]
  · isplitr; · iexact HR
    isplitl [Cr5]; · iexact Cr5
    isplitl [HO]; · iexact HO
    iexact Ar5
  unfold commPts
  iintro ⟨HO, Zr5, Hc6⟩
  sl_exec_parts
  ihave Hout : ((Memref.whole cc0_stg0_0).view.loc (c : Thread nD τ) ↦{fullShare} accOut m c 6) $$ [Hout]
  · iapply (out_next m c 5 (by decide) _ _ _ _ _ _ _ _ _ _ _ _ _ _ _ (off33_eq c) (off34_eq c) (off35_eq c) (off36_eq c)
      k0_pay47 (fun x w o => k0_pay49 (k0_pay48 x) w o) k0_pay50 k0_pay51 rfl rfl rfl rfl _ _ _ _ _ _ _ _ (accOut m c 5)); iexact Hout
  iapply (recv_step m K c 6 _) $$ [Cr6 HO Ar6]
  · isplitr; · iexact HR
    isplitl [Cr6]; · iexact Cr6
    isplitl [HO]; · iexact HO
    iexact Ar6
  unfold commPts
  iintro ⟨HO, Zr6, Hc7⟩
  sl_exec_parts
  ihave Hout : ((Memref.whole cc0_stg0_0).view.loc (c : Thread nD τ) ↦{fullShare} accOut m c 7) $$ [Hout]
  · iapply (out_next m c 6 (by decide) _ _ _ _ _ _ _ _ _ _ _ _ _ _ _ (off37_eq c) (off38_eq c) (off39_eq c) (off40_eq c)
      k0_pay52 k0_pay53 k0_pay54 k0_pay55 rfl rfl rfl rfl _ _ _ _ _ _ _ _ (accOut m c 6)); iexact Hout
  iapply (sent_step m K c 6 _) $$ [Cs6 HO As6]
  · isplitr; · iexact HR
    isplitl [Cs6]; · iexact Cs6
    isplitl [HO]; · iexact HO
    iexact As6
  iintro ⟨HO, Zs6, Hs6⟩
  sl_exec_parts
  iapply (sent_step m K c 0 _) $$ [Cs0 HO As0]
  · isplitr; · iexact HR
    isplitl [Cs0]; · iexact Cs0
    isplitl [HO]; · iexact HO
    iexact As0
  iintro ⟨HO, Zs0, Hs0⟩
  sl_exec_parts
  iapply (sent_step m K c 1 _) $$ [Cs1 HO As1]
  · isplitr; · iexact HR
    isplitl [Cs1]; · iexact Cs1
    isplitl [HO]; · iexact HO
    iexact As1
  iintro ⟨HO, Zs1, Hs1⟩
  sl_exec_parts
  iapply (sent_step m K c 2 _) $$ [Cs2 HO As2]
  · isplitr; · iexact HR
    isplitl [Cs2]; · iexact Cs2
    isplitl [HO]; · iexact HO
    iexact As2
  iintro ⟨HO, Zs2, Hs2⟩
  sl_exec_parts
  iapply (sent_step m K c 3 _) $$ [Cs3 HO As3]
  · isplitr; · iexact HR
    isplitl [Cs3]; · iexact Cs3
    isplitl [HO]; · iexact HO
    iexact As3
  iintro ⟨HO, Zs3, Hs3⟩
  sl_exec_parts
  iapply (sent_step m K c 4 _) $$ [Cs4 HO As4]
  · isplitr; · iexact HR
    isplitl [Cs4]; · iexact Cs4
    isplitl [HO]; · iexact HO
    iexact As4
  iintro ⟨HO, Zs4, Hs4⟩
  sl_exec_parts
  iapply (sent_step m K c 5 _) $$ [Cs5 HO As5]
  · isplitr; · iexact HR
    isplitl [Cs5]; · iexact Cs5
    isplitl [HO]; · iexact HO
    iexact As5
  iintro ⟨HO, Zs5, Hs5⟩
  sl_exec_parts
  sl_step
  iapply HQ
  unfold ends args local0 slabsEnd
  rw [bigSep_fin8, bigSep_two, bigSep_two, bigSep_fin7, bigSep_fin7, bigSep_fin7]
  unfold commPts stagePts wbufPts
  isplitl [HO]; · iexists _; iexact HO
  isplitl [Hout]; · iexact Hout
  isplitl [Hx0 Hx1 Hv0 Hv1]
  · isplitl [Hx0]; · iexact Hx0
    isplitl [Hx1]; · iexact Hx1
    isplitl [Hv0]; · iexact Hv0
    iexact Hv1
  isplitl [Hm17 Hm18 Hm19 Hm20]
  · isplitl [Hm17]; · iexact Hm17
    isplitl [Hm18]; · iexact Hm18
    isplitl [Hm19]; · iexact Hm19
    iexact Hm20
  isplitl [Hc0 Hc1 Hc2 Hc3 Hc4 Hc5 Hc6 Hc7 Hs0 Hs1 Hs2 Hs3 Hs4 Hs5 Hs6 Hg0 Hg1 Hw0 Hw1]
  · isplitl [Hc0 Hc1 Hc2 Hc3 Hc4 Hc5 Hc6 Hc7]
    · isplitl [Hc0]; · iexists _; iexact Hc0
      isplitl [Hc1]; · iexists _; iexact Hc1
      isplitl [Hc2]; · iexists _; iexact Hc2
      isplitl [Hc3]; · iexists _; iexact Hc3
      isplitl [Hc4]; · iexists _; iexact Hc4
      isplitl [Hc5]; · iexists _; iexact Hc5
      isplitl [Hc6]; · iexists _; iexact Hc6
      iexists _; iexact Hc7
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hg0 Hg1]
    · isplitl [Hg0]; · iexists _; iexact Hg0
      iexists _; iexact Hg1
    isplitl [Hw0]; · iexists _; iexact Hw0
    iexists _; iexact Hw1
  isplitl [Zs0 Zs1 Zs2 Zs3 Zs4 Zs5 Zs6]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    iexact Zs6
  isplitl [Zr0 Zr1 Zr2 Zr3 Zr4 Zr5 Zr6]
  · isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    iexact Zr6
  iexact Ab

end Cert.KernelIdeal.Exch

end
-- ==== Proof.Slabs.lean ====
module

public import proofs.«01_k».proof.Proof.Body
public import Idealize.ShloMosaic.Lib.Ring

@[expose] public section

noncomputable section

/-! Buffers held whole and piece by piece. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-! ## Scratch buffers whole and slab by slab -/

theorem comm_set (t : ℕ) (h : t < 8) : ((commM t h).view.set : Finset S8x1024x1024.Idx) = (Rect.unit (s := S8x1024x1024) ![t, 0, 0] S1x1024x1024.size (comm_inb t h)).set := by
  exact (View.set_reshape _ _).trans (View.set_slice_whole _ _)
theorem comm_apart (t t' : Fin 8) (h : t ≠ t') : Disjoint ((commM t.val t.isLt).view.set : Finset S8x1024x1024.Idx) ((commM t'.val t'.isLt).view.set : Finset S8x1024x1024.Idx) := by
  rw [comm_set, comm_set]
  exact Ring.lead_disjoint (s := S8x1024x1024) (NB := 8) 0 1 (fun b => ![b.val, 0, 0]) S1x1024x1024.size (fun b => comm_inb b.val b.isLt) (fun b => (Nat.one_mul _).symm) rfl t t' h
theorem comm_cover : Finset.biUnion (β := S8x1024x1024.Idx) Finset.univ (fun t : Fin 8 => ((commM t.val t.isLt).view.set : Finset S8x1024x1024.Idx)) = Finset.univ := by
  rw [show (fun t : Fin 8 => ((commM t.val t.isLt).view.set : Finset S8x1024x1024.Idx)) = fun t => (Rect.unit (s := S8x1024x1024) ![t.val, 0, 0] S1x1024x1024.size (comm_inb t.val t.isLt)).set
    from funext fun t => comm_set t.val t.isLt]
  exact Ring.lead_cover (s := S8x1024x1024) (NB := 8) 0 1 (fun b => ![b.val, 0, 0]) S1x1024x1024.size (fun b => comm_inb b.val b.isLt) (fun b => (Nat.one_mul _).symm)
    (fun b a ha => by fin_cases a <;> first | exact absurd rfl ha | rfl) rfl (fun a ha => by fin_cases a <;> first | exact absurd rfl ha | rfl) rfl
/-- The receive buffer is its eight slabs; -/
theorem comm_split (c : Dev nD) (f : (cc0_scratch0 : Ref sig .tc).ty.Contents (Elt F)) :
    (((c : Thread nD τ).loc cc0_scratch0) ↦{fullShare} f : sProp 𝕄) = bigSep Finset.univ fun t : Fin 8 => commPts c t.val t.isLt f := by
  unfold commPts
  exact Ring.pointsTo_blocks (ℓ := (c : Thread nD τ).loc cc0_scratch0) (fun t : Fin 8 => (commM t.val t.isLt).view.set) comm_apart comm_cover f
theorem comm_join (c : Dev nD) (f₀ : (cc0_scratch0 : Ref sig .tc).ty.Contents (Elt F)) :
    (bigSep Finset.univ fun t : Fin 8 => iprop(∃ f, commPts (F := F) c t.val t.isLt f)) ⊢ (iprop(∃ f, ((c : Thread nD τ).loc cc0_scratch0) ↦{fullShare} f) : sProp 𝕄) := by
  unfold commPts
  exact Ring.pointsTo_blocks_join_exists (ℓ := (c : Thread nD τ).loc cc0_scratch0) (fun t : Fin 8 => (commM t.val t.isLt).view.set) comm_apart comm_cover f₀

theorem sbuf_set (t : ℕ) (h : t < 7) : ((sbufM t h).view.set : Finset S7x1024x1024.Idx) = (Rect.unit (s := S7x1024x1024) ![t, 0, 0] S1x1024x1024.size (sbuf_inb t h)).set := by
  exact (View.set_reshape _ _).trans (View.set_slice_whole _ _)
theorem sbuf_apart (t t' : Fin 7) (h : t ≠ t') : Disjoint ((sbufM t.val t.isLt).view.set : Finset S7x1024x1024.Idx) ((sbufM t'.val t'.isLt).view.set : Finset S7x1024x1024.Idx) := by
  rw [sbuf_set, sbuf_set]
  exact Ring.lead_disjoint (s := S7x1024x1024) (NB := 7) 0 1 (fun b => ![b.val, 0, 0]) S1x1024x1024.size (fun b => sbuf_inb b.val b.isLt) (fun b => (Nat.one_mul _).symm) rfl t t' h
theorem sbuf_cover : Finset.biUnion (β := S7x1024x1024.Idx) Finset.univ (fun t : Fin 7 => ((sbufM t.val t.isLt).view.set : Finset S7x1024x1024.Idx)) = Finset.univ := by
  rw [show (fun t : Fin 7 => ((sbufM t.val t.isLt).view.set : Finset S7x1024x1024.Idx)) = fun t => (Rect.unit (s := S7x1024x1024) ![t.val, 0, 0] S1x1024x1024.size (sbuf_inb t.val t.isLt)).set
    from funext fun t => sbuf_set t.val t.isLt]
  exact Ring.lead_cover (s := S7x1024x1024) (NB := 7) 0 1 (fun b => ![b.val, 0, 0]) S1x1024x1024.size (fun b => sbuf_inb b.val b.isLt) (fun b => (Nat.one_mul _).symm)
    (fun b a ha => by fin_cases a <;> first | exact absurd rfl ha | rfl) rfl (fun a ha => by fin_cases a <;> first | exact absurd rfl ha | rfl) rfl
/-- the send buffer its seven; -/
theorem sbuf_split (c : Dev nD) (f : (cc0_scratch1 : Ref sig .tc).ty.Contents (Elt F)) :
    (((c : Thread nD τ).loc cc0_scratch1) ↦{fullShare} f : sProp 𝕄) = bigSep Finset.univ fun t : Fin 7 => sbufPts c t.val t.isLt f := by
  unfold sbufPts
  exact Ring.pointsTo_blocks (ℓ := (c : Thread nD τ).loc cc0_scratch1) (fun t : Fin 7 => (sbufM t.val t.isLt).view.set) sbuf_apart sbuf_cover f
theorem sbuf_join (c : Dev nD) (f₀ : (cc0_scratch1 : Ref sig .tc).ty.Contents (Elt F)) :
    (bigSep Finset.univ fun t : Fin 7 => iprop(∃ f, sbufPts (F := F) c t.val t.isLt f)) ⊢ (iprop(∃ f, ((c : Thread nD τ).loc cc0_scratch1) ↦{fullShare} f) : sProp 𝕄) := by
  unfold sbufPts
  exact Ring.pointsTo_blocks_join_exists (ℓ := (c : Thread nD τ).loc cc0_scratch1) (fun t : Fin 7 => (sbufM t.val t.isLt).view.set) sbuf_apart sbuf_cover f₀

theorem stage_set (t : ℕ) (h : t < 2) : ((stageM t h).view.set : Finset S2x512x1024.Idx) = (Rect.unit (s := S2x512x1024) ![t, 0, 0] S1x512x1024.size (stage_inb t h)).set := by
  exact (View.set_reshape _ _).trans (View.set_slice_whole _ _)
theorem stage_apart (t t' : Fin 2) (h : t ≠ t') : Disjoint ((stageM t.val t.isLt).view.set : Finset S2x512x1024.Idx) ((stageM t'.val t'.isLt).view.set : Finset S2x512x1024.Idx) := by
  rw [stage_set, stage_set]
  exact Ring.lead_disjoint (s := S2x512x1024) (NB := 2) 0 1 (fun b => ![b.val, 0, 0]) S1x512x1024.size (fun b => stage_inb b.val b.isLt) (fun b => (Nat.one_mul _).symm) rfl t t' h
theorem stage_cover : Finset.biUnion (β := S2x512x1024.Idx) Finset.univ (fun t : Fin 2 => ((stageM t.val t.isLt).view.set : Finset S2x512x1024.Idx)) = Finset.univ := by
  rw [show (fun t : Fin 2 => ((stageM t.val t.isLt).view.set : Finset S2x512x1024.Idx)) = fun t => (Rect.unit (s := S2x512x1024) ![t.val, 0, 0] S1x512x1024.size (stage_inb t.val t.isLt)).set
    from funext fun t => stage_set t.val t.isLt]
  exact Ring.lead_cover (s := S2x512x1024) (NB := 2) 0 1 (fun b => ![b.val, 0, 0]) S1x512x1024.size (fun b => stage_inb b.val b.isLt) (fun b => (Nat.one_mul _).symm)
    (fun b a ha => by fin_cases a <;> first | exact absurd rfl ha | rfl) rfl (fun a ha => by fin_cases a <;> first | exact absurd rfl ha | rfl) rfl
/-- the stage its two; -/
theorem stage_split (c : Dev nD) (f : (cc0_scratch2 : Ref sig .tc).ty.Contents (Elt F)) :
    (((c : Thread nD τ).loc cc0_scratch2) ↦{fullShare} f : sProp 𝕄) = bigSep Finset.univ fun t : Fin 2 => stagePts c t.val t.isLt f := by
  unfold stagePts
  exact Ring.pointsTo_blocks (ℓ := (c : Thread nD τ).loc cc0_scratch2) (fun t : Fin 2 => (stageM t.val t.isLt).view.set) stage_apart stage_cover f
theorem stage_join (c : Dev nD) (f₀ : (cc0_scratch2 : Ref sig .tc).ty.Contents (Elt F)) :
    (bigSep Finset.univ fun t : Fin 2 => iprop(∃ f, stagePts (F := F) c t.val t.isLt f)) ⊢ (iprop(∃ f, ((c : Thread nD τ).loc cc0_scratch2) ↦{fullShare} f) : sProp 𝕄) := by
  unfold stagePts
  exact Ring.pointsTo_blocks_join_exists (ℓ := (c : Thread nD τ).loc cc0_scratch2) (fun t : Fin 2 => (stageM t.val t.isLt).view.set) stage_apart stage_cover f₀

theorem wbuf_set (t : ℕ) (h : t < 2) : ((wbufM t h).view.set : Finset S2x1024x1024.Idx) = (Rect.unit (s := S2x1024x1024) ![t, 0, 0] S1x1024x1024.size (wbuf_inb t h)).set := by
  exact (View.set_reshape _ _).trans (View.set_slice_whole _ _)
theorem wbuf_apart (t t' : Fin 2) (h : t ≠ t') : Disjoint ((wbufM t.val t.isLt).view.set : Finset S2x1024x1024.Idx) ((wbufM t'.val t'.isLt).view.set : Finset S2x1024x1024.Idx) := by
  rw [wbuf_set, wbuf_set]
  exact Ring.lead_disjoint (s := S2x1024x1024) (NB := 2) 0 1 (fun b => ![b.val, 0, 0]) S1x1024x1024.size (fun b => wbuf_inb b.val b.isLt) (fun b => (Nat.one_mul _).symm) rfl t t' h
theorem wbuf_cover : Finset.biUnion (β := S2x1024x1024.Idx) Finset.univ (fun t : Fin 2 => ((wbufM t.val t.isLt).view.set : Finset S2x1024x1024.Idx)) = Finset.univ := by
  rw [show (fun t : Fin 2 => ((wbufM t.val t.isLt).view.set : Finset S2x1024x1024.Idx)) = fun t => (Rect.unit (s := S2x1024x1024) ![t.val, 0, 0] S1x1024x1024.size (wbuf_inb t.val t.isLt)).set
    from funext fun t => wbuf_set t.val t.isLt]
  exact Ring.lead_cover (s := S2x1024x1024) (NB := 2) 0 1 (fun b => ![b.val, 0, 0]) S1x1024x1024.size (fun b => wbuf_inb b.val b.isLt) (fun b => (Nat.one_mul _).symm)
    (fun b a ha => by fin_cases a <;> first | exact absurd rfl ha | rfl) rfl (fun a ha => by fin_cases a <;> first | exact absurd rfl ha | rfl) rfl
/-- and the weight buffer its two. -/
theorem wbuf_split (c : Dev nD) (f : (cc0_scratch3 : Ref sig .tc).ty.Contents (Elt F)) :
    (((c : Thread nD τ).loc cc0_scratch3) ↦{fullShare} f : sProp 𝕄) = bigSep Finset.univ fun t : Fin 2 => wbufPts c t.val t.isLt f := by
  unfold wbufPts
  exact Ring.pointsTo_blocks (ℓ := (c : Thread nD τ).loc cc0_scratch3) (fun t : Fin 2 => (wbufM t.val t.isLt).view.set) wbuf_apart wbuf_cover f
theorem wbuf_join (c : Dev nD) (f₀ : (cc0_scratch3 : Ref sig .tc).ty.Contents (Elt F)) :
    (bigSep Finset.univ fun t : Fin 2 => iprop(∃ f, wbufPts (F := F) c t.val t.isLt f)) ⊢ (iprop(∃ f, ((c : Thread nD τ).loc cc0_scratch3) ↦{fullShare} f) : sProp 𝕄) := by
  unfold wbufPts
  exact Ring.pointsTo_blocks_join_exists (ℓ := (c : Thread nD τ).loc cc0_scratch3) (fun t : Fin 2 => (wbufM t.val t.isLt).view.set) wbuf_apart wbuf_cover f₀

/-! ## Arguments read through two of their tokens -/

/-- What of a buffer is left beside two of its read tokens. -/
def others (ℓ : Loc nD τ sig) (i j : ℕ) (f : Buf (Elt F) ℓ) : sProp 𝕄 := iprop(
  (ℓ ↦{Transfers.shareDrop fullShare 21} f) ∗ bigSep (((Finset.range 21).erase i).erase j) fun k => ℓ ↦{Transfers.shareTokN fullShare k} f)

theorem two_toks (ℓ : Loc nD τ sig) (i j : ℕ) (hi : i ∈ Finset.range 21) (hj : j ∈ (Finset.range 21).erase i) (f : Buf (Elt F) ℓ) :
    (ℓ ↦{fullShare} f : sProp 𝕄) ⊣⊢ iprop(others ℓ i j f ∗ (ℓ ↦{Transfers.shareTokN fullShare i} f) ∗ ℓ ↦{Transfers.shareTokN fullShare j} f) := by
  have h := Transfers.pointsTo_toks_range (Ix := Bool) (Name := ℕ) (U := UU) (Lvl := ℕ) (ℓ := ℓ) (S := Finset.univ) (f := f) fullShare 21
  have e : bigSep (Finset.range 21) (fun k => (ℓ ↦{Transfers.shareTokN fullShare k} f : sProp 𝕄))
      = iprop((ℓ ↦{Transfers.shareTokN fullShare i} f) ∗ (ℓ ↦{Transfers.shareTokN fullShare j} f)
        ∗ bigSep (((Finset.range 21).erase i).erase j) fun k => ℓ ↦{Transfers.shareTokN fullShare k} f) := by
    rw [bigSep_erase hi, bigSep_erase hj]; rfl
  rw [e] at h
  unfold others
  constructor
  · refine h.1.trans ?_
    iintro ⟨H1, H2, H3, H4⟩
    isplitl [H1 H4]
    · isplitl [H1] <;> iassumption
    isplitl [H2] <;> iassumption
  · refine BIBase.Entails.trans ?_ h.2
    iintro ⟨⟨H1, H4⟩, H2, H3⟩
    isplitl [H1]; · iexact H1
    isplitl [H2]; · iexact H2
    isplitl [H3] <;> iassumption

/-- The arguments held whole; -/
def argsWhole (c : Dev nD) : sProp 𝕄 := iprop(
  (((c : Thread nD τ).loc main_arg0) ↦{fullShare} m ((c : Thread nD τ).loc main_arg0)) ∗ (((c : Thread nD τ).loc main_arg1) ↦{fullShare} m ((c : Thread nD τ).loc main_arg1)))
/-- what the copies do not need of them. -/
def argsRest (c : Dev nD) : sProp 𝕄 := iprop(
  others ((c : Thread nD τ).loc main_arg0) 17 18 (m ((c : Thread nD τ).loc main_arg0)) ∗ others ((c : Thread nD τ).loc main_arg1) 19 20 (m ((c : Thread nD τ).loc main_arg1)))

theorem args_split (c : Dev nD) : (argsWhole m c : sProp 𝕄) ⊣⊢ iprop(argsRest m c ∗ args m c) := by
  have h0 := two_toks ((c : Thread nD τ).loc main_arg0) 17 18 (by decide) (by decide) (m ((c : Thread nD τ).loc main_arg0))
  have h1 := two_toks ((c : Thread nD τ).loc main_arg1) 19 20 (by decide) (by decide) (m ((c : Thread nD τ).loc main_arg1))
  unfold argsWhole argsRest args
  constructor
  · refine (BIClass.sep_mono h0.1 h1.1).trans ?_
    iintro ⟨⟨H1, H2, H3⟩, H4, H5, H6⟩
    isplitl [H1 H4]
    · isplitl [H1] <;> iassumption
    isplitl [H2]; · iexact H2
    isplitl [H3]; · iexact H3
    isplitl [H5] <;> iassumption
  · refine BIBase.Entails.trans ?_ (BIClass.sep_mono h0.2 h1.2)
    iintro ⟨⟨H1, H4⟩, H2, H3, H5, H6⟩
    isplitl [H1 H2 H3]
    · isplitl [H1]; · iexact H1
      isplitl [H2] <;> iassumption
    isplitl [H4]; · iexact H4
    isplitl [H5] <;> iassumption

/-- The scratch buffers, each whole. -/
def scratch (c : Dev nD) : sProp 𝕄 := iprop(
  (∃ f, ((c : Thread nD τ).loc cc0_scratch0) ↦{fullShare} f) ∗ (∃ f, ((c : Thread nD τ).loc cc0_scratch1) ↦{fullShare} f)
  ∗ (∃ f, ((c : Thread nD τ).loc cc0_scratch2) ↦{fullShare} f) ∗ (∃ f, ((c : Thread nD τ).loc cc0_scratch3) ↦{fullShare} f))

theorem scratch_join (c : Dev nD) : (slabsEnd c : sProp 𝕄) ⊢ scratch c := by
  unfold slabsEnd scratch
  exact BIClass.sep_mono (comm_join c fun _ => Classical.arbitrary _) (BIClass.sep_mono (sbuf_join c fun _ => Classical.arbitrary _)
    (BIClass.sep_mono (stage_join c fun _ => Classical.arbitrary _) (wbuf_join c fun _ => Classical.arbitrary _)))

/-- The body runs from its scratch buffers whole to the same. -/
theorem run (K : Dev nD × CK → ℕ) (c : Dev nD) (W : Waits sig Bool) (Q : PUnit → sProp 𝕄) (fo : (cc0_stg0_0 : Ref sig .tc).ty.Contents (Elt F)) :
    iprop(records m K ∗ levAts L lv ∗ owes (c : Thread nD τ) (O₀ c) W ∗ scratch c
      ∗ (((c : Thread nD τ).loc cc0_stg0_0) ↦{fullShare} fo)
      ∗ args m c ∗ local0 c ∗ duty c ∗ (ends m c -∗ Q ⟨⟩))
    ⊢ wp frame (wpE (defs₀ (F := F)) 𝒱₀ (c : Thread nD τ) none) Set.univ (bodyProg (F := F)) Q := by
  unfold scratch
  iintro ⟨#HR, #Hlev, HO, ⟨⟨%fc, Hc⟩, ⟨%fs, Hs⟩, ⟨%fg, Hg⟩, ⟨%fw, Hw⟩⟩, Hout, Hx, Hm, Hd, HQ⟩
  ihave Hc := (Entails.of_eq (comm_split c fc)) $$ Hc
  ihave Hs := (Entails.of_eq (sbuf_split c fs)) $$ Hs
  ihave Hg := (Entails.of_eq (stage_split c fg)) $$ Hg
  ihave Hw := (Entails.of_eq (wbuf_split c fw)) $$ Hw
  ihave Hc := (Entails.of_eq (bigSep_fin8 _)) $$ Hc
  ihave Hs := (Entails.of_eq (bigSep_fin7 _)) $$ Hs
  ihave Hg := (Entails.of_eq (bigSep_two _)) $$ Hg
  ihave Hw := (Entails.of_eq (bigSep_two _)) $$ Hw
  icases Hg with ⟨Hg0, Hg1⟩
  icases Hw with ⟨Hw0, Hw1⟩
  icases Hc with ⟨Hc0, Hc⟩
  iapply (run0 m K c W Q fc fs fg fw fo)
  isplitr; · iexact HR
  isplitr; · iexact Hlev
  isplitl [HO]; · iexact HO
  isplitl [Hc0 Hc]
  · isplitl [Hc0]; · unfold commPts; iexact Hc0
    iexact Hc
  isplitl [Hs]; · iexact Hs
  isplitl [Hg0 Hg1 Hw0 Hw1]
  · isplitl [Hg0]; · iexact Hg0
    isplitl [Hg1]; · iexact Hg1
    isplitl [Hw0]; · iexact Hw0
    iexact Hw1
  isplitl [Hout]; · iexact Hout
  isplitl [Hx]; · iexact Hx
  isplitl [Hm]; · iexact Hm
  isplitl [Hd]; · iexact Hd
  iexact HQ

end Cert.KernelIdeal.Exch

end
-- ==== Proof.Start.lean ====
module

public import proofs.«01_k».proof.Proof.Slabs
public import Idealize.ShloMosaic.Lib.Pipeline.CollectiveSegs

@[expose] public section

noncomputable section

/-! What the launch deals the devices: the exchange's cells, tokens and credit. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-! ## Enumerations -/

theorem bigSep_CK (Φ : CK → sProp 𝕄) :
    bigSep Finset.univ Φ = iprop(Φ none ∗ (bigSep Finset.univ fun j => Φ (some (false, j))) ∗ bigSep Finset.univ fun j => Φ (some (true, j))) := by
  let e : (Unit ⊕ (Fin 7 ⊕ Fin 7)) ≃ CK :=
    ⟨fun | .inl _ => none | .inr (.inl j) => some (false, j) | .inr (.inr j) => some (true, j),
     fun | none => .inl () | some (false, j) => .inr (.inl j) | some (true, j) => .inr (.inr j),
     by rintro (_ | _ | _) <;> rfl, by rintro (_ | ⟨_ | _, _⟩) <;> rfl⟩
  rw [bigSep_univ_equiv e, bigSep_univ_sum, bigSep_univ_sum, bigSep_univ_eq_bigSepL [()] (by decide) (by decide), bigSepL_singleton]
  rfl
theorem bigSep_three (Φ : Fin 3 → sProp 𝕄) : bigSep Finset.univ Φ = iprop(Φ 0 ∗ Φ 1 ∗ Φ 2) := bigSep_univ_eq_bigSepL [0, 1, 2] (by decide) (by decide) Φ

theorem csem_injective : Function.Injective csem := fun k k' h => by rw [← role_csem k, ← role_csem k', h]
theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def exCells : Finset (GSem nD τ sig) := Finset.univ.map ⟨kcell, kcell_injective⟩

/-- A device's cells' duty tokens as minted: its barrier cell's seven, its send cells' and its receive cells' one each. -/
def tokOf (x : Dev nD × Fin 3 × Fin 7) : GSem nD τ sig × ℕ × Fin 7 :=
  match x.2.1 with
  | 0 => (barCell x.1, 0, x.2.2)
  | 1 => (sndCell x.1 x.2.2, 0, 0)
  | 2 => (rcvCell x.1 x.2.2, 0, 0)
def tokBack (y : GSem nD τ sig × ℕ × Fin 7) : Dev nD × Fin 3 × Fin 7 :=
  (y.1.1.1, match role y.1.2 with
    | none => (0, y.2.2)
    | some (false, j) => (1, j)
    | some (true, j) => (2, j))
theorem tokBack_tokOf (x : Dev nD × Fin 3 × Fin 7) : tokBack (tokOf x) = x := by
  obtain ⟨c, k, j⟩ := x
  unfold tokBack
  fin_cases k
  · rfl
  · show (c, (match role (.dma (sndS j)) with | none => _ | some (false, j) => _ | some (true, j) => _ : Fin 3 × Fin 7)) = _
    rw [role_snd]; rfl
  · show (c, (match role (.dma (rcvS j)) with | none => _ | some (false, j) => _ | some (true, j) => _ : Fin 3 × Fin 7)) = _
    rw [role_rcv]; rfl
theorem tokOf_injective : Function.Injective tokOf := Function.LeftInverse.injective tokBack_tokOf
def exToks : Finset (GSem nD τ sig × ℕ × Fin 7) := Finset.univ.map ⟨tokOf, tokOf_injective⟩

/-- The ghost state the launch starts from. -/
def u₀ : UU := (initOf (Pipeline.cells cfgs cellOf_inj) (Pipeline.launchToks cfgs cellOf_inj), (initOf exCells exToks, 1))

/-! ## What each device is dealt -/

/-- The duty tokens of a device's own cells. -/
def toks (c : Dev nD) : sProp 𝕄 := iprop((bigSep Finset.univ fun j : Fin 7 => dutyTok ER (barCell c) 0 j)
  ∗ (bigSep Finset.univ fun j : Fin 7 => dutyTok ER (sndCell c j) 0 0) ∗ (bigSep Finset.univ fun j : Fin 7 => dutyTok ER (rcvCell c j) 0 0))
def G (c : Dev nD) : sProp 𝕄 := iprop((bigSep Finset.univ fun k : CK => roundState ER (exRd m) (kcell (c, k)) 0)
  ∗ (bigSep Finset.univ fun k : CK => iprop(atPos ER (kcell (c, k)) 0 ∅ 0 ∗ reached ER (kcell (c, k)) 0)) ∗ toks c)

/-- The duty tokens a device pays with; -/
def payToks (c : Dev nD) : sProp 𝕄 := iprop((bigSep Finset.univ fun j : Fin 7 => dutyTok ER (barCell (peer j.succ c)) 0 j)
  ∗ (bigSep Finset.univ fun j : Fin 7 => dutyTok ER (sndCell c j) 0 0) ∗ (bigSep Finset.univ fun j : Fin 7 => dutyTok ER (rcvCell (peer j.succ c) j) 0 0))
/-- its positions; -/
def poss (c : Dev nD) : sProp 𝕄 := bigSep Finset.univ fun k : CK => atPos ER (kcell (c, k)) 0 ∅ 0
/-- two semaphores nobody touches. -/
def spare (c : Dev nD) : sProp 𝕄 := iprop(semVal ((c : Thread nD τ), .dma ⟨1, by decide⟩) 0 ∗ semVal ((c : Thread nD τ), .dma ⟨9, by decide⟩) 0)
def idle (c : Dev nD) : sProp 𝕄 := iprop(local0 c ∗ spare c)
def linear (c : Dev nD) : sProp 𝕄 := iprop(poss c ∗ payToks c ∗ idle c)
def G' (c : Dev nD) : sProp 𝕄 := iprop((∃ K, records m K) ∗ linear c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod, bigSep_three]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores. -/
abbrev osem (i : Fin 20) : SemLoc sig := .dma ⟨i.val + 1, Nat.lt_of_lt_of_le (Nat.succ_lt_succ i.isLt) (by decide)⟩
theorem ownSemFacts : Pipeline.OwnSemFacts cfg0.spec osem := by decide

def xfers0 (c : Dev nD) : sProp 𝕄 := iprop((bigSep Finset.univ fun j : Fin 7 => semVal (sndCell c j) 0) ∗ bigSep Finset.univ fun j : Fin 7 => semVal (rcvCell c j) 0)

theorem ownSems0_iff (c : Dev nD) : (Pipeline.ownSems0 (Ix := Bool) (Name := ℕ) (U := UU) (Lvl := ℕ) (Val := Elt F) (τ := τ) osem c : sProp 𝕄)
    ⊣⊢ iprop(xfers0 c ∗ idle c) := by
  have e : (Pipeline.ownSems0 (Ix := Bool) (Name := ℕ) (U := UU) (Lvl := ℕ) (Val := Elt F) (τ := τ) osem c : sProp 𝕄)
      = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0) :=
    Pipeline.ownSems0_eq_of_list c osem [0, 1, 2, 3, 4, 5, 6, 7, 8, 9, 10, 11, 12, 13, 14, 15, 16, 17, 18, 19] (by decide) (by decide)
  rw [e]
  unfold xfers0 idle local0 spare
  rw [bigSep_fin7, bigSep_fin7]
  constructor
  · iintro ⟨H0, H1, H2, H3, H4, H5, H6, H7, H8, H9, H10, H11, H12, H13, H14, H15, H16, H17, H18, H19⟩
    isplitl [H1 H2 H3 H4 H5 H6 H7 H9 H10 H11 H12 H13 H14 H15]
    · isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitl [H9]; · iexact H9
      isplitl [H10]; · iexact H10
      isplitl [H11]; · iexact H11
      isplitl [H12]; · iexact H12
      isplitl [H13]; · iexact H13
      isplitl [H14]; · iexact H14
      iexact H15
    isplitl [H16 H17 H18 H19]
    · isplitl [H16]; · iexact H16
      isplitl [H17]; · iexact H17
      isplitl [H18]; · iexact H18
      iexact H19
    isplitl [H0]; · iexact H0
    iexact H8
  · iintro ⟨⟨⟨H1, H2, H3, H4, H5, H6, H7⟩, H9, H10, H11, H12, H13, H14, H15⟩, ⟨H16, H17, H18, H19⟩, H0, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c ∗ idle c) := by
  unfold G
  rw [unscopedSems0_eq]
  iintro ⟨Hos, Hb, Hst, Hat, Htok⟩
  ihave Ho := (ownSems0_iff (F := F) c).1 $$ Hos
  unfold xfers0
  icases Ho with ⟨⟨Hs, Hr⟩, Hidle⟩
  imod (show iprop((bigSep Finset.univ fun k : CK => semVal (kcell (c, k)) 0) ∗ bigSep Finset.univ fun k : CK => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hb Hs Hr Hst] with Hinv
  · isplitl [Hb Hs Hr]
    · rw [bigSep_CK]
      isplitl [Hb]; · iexact Hb
      isplitl [Hs]; · iexact Hs
      iexact Hr
    iexact Hst
  imodintro
  isplitl [Hinv]; · iexact Hinv
  isplitl [Hat]; · iexact Hat
  isplitl [Htok]; · iexact Htok
  iexact Hidle

/-- Slot by slot, the tokens of a device's barrier and receive cells go to the slot's partner. -/
theorem toks_around : (bigSep Finset.univ fun c : Dev nD => (toks c : sProp 𝕄)) ⊢ bigSep Finset.univ fun c : Dev nD => payToks c := by
  have hp (Φ : Dev nD → Fin 7 → sProp 𝕄) : (bigSep Finset.univ fun c : Dev nD => bigSep Finset.univ fun j : Fin 7 => Φ c j)
      = bigSep Finset.univ fun c : Dev nD => bigSep Finset.univ fun j : Fin 7 => Φ (peer j.succ c) j := by
    rw [bigSep_univ_comm, bigSep_univ_comm (fun (c : Dev nD) (j : Fin 7) => Φ (peer j.succ c) j)]
    exact bigSep_congr fun j _ => bigSep_univ_equiv (pairing j.succ) fun c => Φ c j
  unfold toks payToks
  rw [bigSep_sep', bigSep_sep', bigSep_sep', bigSep_sep', hp (fun c j => dutyTok ER (barCell c) 0 j), hp (fun c j => dutyTok ER (rcvCell c j) 0 0)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' m) := by
  rw [bigSep_sep', bigSep_sep', bigSep_sep', ← bigSep_univ_prod (fun ck : Dev nD × CK => iprop(∃ κ : ℕ, cellInv ER (exRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hidle⟩
  ihave HK := (BI.bigSep_exists_pi Finset.univ (fun (ck : Dev nD × CK) (κ : ℕ) => (cellInv ER (exRd m) κ (kcell ck) : sProp 𝕄))) $$ HI
  icases HK with ⟨%K, #HI⟩
  ihave Htk := (toks_around (F := F)) $$ Htok
  iapply (with_persistent (R := records m K) (Φ := linear) fun c _ => by
    unfold G'
    iintro ⟨HR, HL⟩
    isplitl [HR]; · iexists K; iexact HR
    iexact HL)
  isplitr
  · unfold records; isplitl; · iexact HI
    iexact HR
  · unfold linear poss
    rw [bigSep_sep', bigSep_sep']
    isplitl [Hat]; · iexact Hat
    isplitl [Htk]; · iexact Htk
    iexact Hidle

/-- All devices' semaphores at zero become the exchange's cells. -/
theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What the listed slots' partners owe a device's receive cells. -/
def dueR (c : Dev nD) : List (Fin 7) → sProp 𝕄
  | [] => iprop(emp)
  | j :: l => iprop(dueR c l ∗ cred (tallyAt (rcvCell c j) true N))

theorem cred_R (c : Dev nD) (l : List (Fin 7)) : (Pipeline.launchCred (fun d => owedR d l) c : sProp 𝕄) ⊢ dueR c l := by
  induction l with
  | nil => exact Entails.of_eq (Pipeline.launchCred_zero c)
  | cons j l ih =>
    show (Pipeline.launchCred (fun d => owedR d l + tallyAt (rcvCell (peer j.succ d) j) true N) c : sProp 𝕄) ⊢ _
    rw [Pipeline.launchCred_add]
    unfold dueR
    exact BIClass.sep_mono ih (Pipeline.launchCred_tallyAt (.dma (rcvS j)) (peer j.succ) (peer j.succ) (peer_peer _) (peer_peer _) true N c)
theorem cred_B (c : Dev nD) (l : List (Fin 7)) :
    (Pipeline.launchCred (fun d => owedB d l) c : sProp 𝕄) ⊢ iprop(dueR c [6, 0, 1, 2, 3, 4, 5] ∗ cred (tallyAt (barCell c) true l.length)) := by
  induction l with
  | nil =>
    rw [List.length_nil, tallyAt_zero, cred_zero]
    refine (cred_R c _).trans ?_
    iintro H
    isplitl [H]; · iexact H
    iempintro
  | cons j l ih =>
    show (Pipeline.launchCred (fun d => owedB d l + tallyAt (barCell (peer j.succ d)) true 1) c : sProp 𝕄) ⊢ _
    rw [Pipeline.launchCred_add]
    refine (BIClass.sep_mono ih (Pipeline.launchCred_tallyAt (.reg barS) (peer j.succ) (peer j.succ) (peer_peer _) (peer_peer _) true 1 c)).trans ?_
    rw [List.length_cons, ← tallyAt_add]
    iintro ⟨⟨H1, H2⟩, H3⟩
    isplitl [H1]; · iexact H1
    iapply (cred_add _ _).2
    isplitl [H2] <;> iassumption

/-- A device's credit at launch, with its tokens and positions, is its part in the exchange. -/
theorem duty_intro (c : Dev nD) : iprop(Pipeline.launchCred O₀ c ∗ poss c ∗ payToks c) ⊢ (duty c : sProp 𝕄) := by
  unfold poss payToks duty
  rw [bigSep_CK, bigSep_fin7 (fun j => cred (tallyAt (rcvCell c j) true N))]
  iintro ⟨Hc, ⟨Hb, Hs, Hr⟩, Tb, Ts, Tr⟩
  ihave Hc := (show (Pipeline.launchCred O₀ c : sProp 𝕄) ⊢ _ from cred_B (F := F) c [0, 1, 2, 3, 4, 5, 6]) $$ Hc
  unfold dueR dueR dueR dueR dueR dueR dueR dueR
  icases Hc with ⟨⟨⟨⟨⟨⟨⟨⟨-, C5⟩, C4⟩, C3⟩, C2⟩, C1⟩, C0⟩, C6⟩, Cb⟩
  isplitl [Tb]; · iexact Tb
  isplitl [Ts]; · iexact Ts
  isplitl [Tr]; · iexact Tr
  isplitl [Hs]; · iexact Hs
  isplitl [Hr]; · iexact Hr
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [Cb]; · iexact Cb
  iexact Hb

end Cert.KernelIdeal.Exch

end
-- ==== Proof.Launched.lean ====
module

public import proofs.«01_k».proof.Proof.Start
public import Idealize.ShloMosaic.Lib.Quiescent
public import Idealize.ShloMosaic.Lib.Pipeline.ValueKit

@[expose] public section

noncomputable section

/-! The launch: every device's body obligation met, and the run of the whole mesh. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-! ## The pipeline's data -/

def mid (c : Dev nD) : sProp 𝕄 := iprop(idle c ∗ argsWhole m c ∗ scratch c)
def Φ₀ (c : Dev nD) : sProp 𝕄 := iprop((∃ K, records m K) ∗ levAts L lv ∗ duty c ∗ mid m c)
def Φ₁ (c : Dev nD) : sProp 𝕄 := iprop(semVal (barCell c) 0 ∗ xfers0 c ∗ mid m c)

variable (ρ : Dev nD → PrngReg)

/-- The memory a launch starts from. -/
def start0 : MemSt nD τ sig (Elt F) := ⟨m, fun _ => 0, ρ⟩

def dats (_ : Fin 1) (c : Dev nD) : Dat τ (Elt F) Bool ℕ UU ℕ cfg0 c where
  A w := (start0 m ρ).mem ((cfg0.win w).arr.view.loc (c : Thread nD τ))
  after w _ := match w with
    | ⟨0, _⟩ => accOut m c 7
  Φ t := match t with
    | ⟨0, _⟩ => Φ₀ m c
    | ⟨_ + 1, _⟩ => Φ₁ m c
  q _ := fullShare
  owed t := match t with
    | ⟨0, _⟩ => O₀ c
    | ⟨_ + 1, _⟩ => 0

theorem stg_owns (c : Dev nD) (X : (cc0_stg0_0 : Ref sig .tc).ty.Contents (Elt F)) :
    (owns (Ix := Bool) (Name := ℕ) (U := UU) (Lvl := ℕ) (c : Thread nD τ) (Memref.whole cc0_stg0_0) fullShare X : sProp 𝕄)
      = iprop(∃ f : Buf (Elt F) ((c : Thread nD τ).loc cc0_stg0_0), ⌜f = X⌝ ∗ (((c : Thread nD τ).loc cc0_stg0_0) ↦{fullShare} f)) := by
  unfold owns; simp only [Memref.view_whole, View.read_whole, View.set_whole]

def stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))
def pre (c : Dev nD) : sProp 𝕄 :=
  iprop(Φ₀ m c ∗ (dats m ρ 0 c).owesAt false (t0_0 : Fin cfg0.N).castSucc ∗ (∃ d, stg c ((dats m ρ 0 c).before (0 : Fin 1) t0_0 d)))
def post (c : Dev nD) : sProp 𝕄 :=
  iprop(Φ₁ m c ∗ (dats m ρ 0 c).owesAt false (t0_0 : Fin cfg0.N).succ ∗ stg c (accOut m c 7))

/-- What the body ends with is what the pipeline asks of it, the barrier's cell once closed. -/
theorem ends_post (K : Dev nD × CK → ℕ) (c : Dev nD) :
    iprop(records m K ∗ argsRest m c ∗ spare c ∗ ends m c) ⊢ |={Set.univ}=> (post m ρ c : sProp 𝕄) := by
  unfold ends post Φ₁ mid idle stg Dat.owesAt Pipeline.owesWithin
  iintro ⟨#HR, Hrest, Hsp, ⟨%W, HO⟩, Hout, Hx, Hloc, Hsl, Hs, Hr, Hb⟩
  imod (bar_close m K c) $$ [Hb] with Hb
  · isplitr; · iexact HR
    iexact Hb
  ihave Hx := (args_split m c).2 $$ [Hrest Hx]
  · isplitl [Hrest] <;> iassumption
  ihave Hsc := (scratch_join c) $$ Hsl
  imodintro
  isplitl [Hb Hs Hr Hloc Hsp Hx Hsc]
  · isplitl [Hb]; · iexact Hb
    isplitl [Hs Hr]
    · unfold xfers0; isplitl [Hs] <;> iassumption
    isplitl [Hloc Hsp]
    · isplitl [Hloc] <;> iassumption
    isplitl [Hx] <;> iassumption
  isplitl [HO]
  · iexists W
    isplitr; · ipureintro; exact fun _ _ => Or.inl trivial
    iexact HO
  iexists _; isplitr; · (ipureintro; rfl)
  iexact Hout

theorem body_pre (c : Dev nD) :
    pre m ρ c ⊢ wp frame (wpE (defs₀ (F := F)) 𝒱₀ (c : Thread nD τ) none) Set.univ (bodyProg (F := F)) (fun _ => post m ρ c) := by
  unfold pre Φ₀ mid idle stg Dat.owesAt Pipeline.owesWithin
  iintro ⟨⟨⟨%K, #HR⟩, #Hlev, Hd, ⟨Hloc, Hsp⟩, Hx, Hsc⟩, ⟨%W, -, HO⟩, ⟨%d, %f, -, Hf⟩⟩
  ihave Hx := (args_split m c).1 $$ Hx
  icases Hx with ⟨Hrest, Hx⟩
  iapply (wp_fupd _)
  iapply (run m K c W (fun _ => iprop(|={Set.univ}=> post m ρ c)) f)
  isplitr; · iexact HR
  isplitr; · iexact Hlev
  isplitl [HO]; · iexact HO
  isplitl [Hsc]; · iexact Hsc
  isplitl [Hf]; · iexact Hf
  isplitl [Hx]; · iexact Hx
  isplitl [Hloc]; · iexact Hloc
  isplitl [Hd]; · iexact Hd
  iintro He
  iapply (ends_post m ρ K c)
  isplitr; · iexact HR
  isplitl [Hrest]; · iexact Hrest
  isplitl [Hsp] <;> iassumption

set_option maxRecDepth 20000 in
theorem body_obligation (c : Dev nD) : BodyObligation (dats m ρ 0 c) (defs₀ (F := F)) 𝒱₀ false Set.univ := fun t => by
  rw [show t = t0_0 from fin_N0 t, bigSep_W0, bigSep_W0]
  simp only [show ∀ X, (owns (Ix := Bool) (Name := ℕ) (U := UU) (Lvl := ℕ) (c : Thread nD τ) (Memref.whole cc0_stg0_0) fullShare X : sProp 𝕄) = stg c X from fun X => stg_owns c X]
  exact body_pre m ρ c

theorem share_eq (c : Dev nD) (w : Fin cfg0.W) : (dats m ρ 0 c).share w = fullShare := by unfold Dat.share; split <;> rfl

/-! ## The launch's side conditions -/

def held (c : Dev nD) : sProp 𝕄 := iprop((∃ K, records m K) ∗ levAts L lv ∗ duty c ∗ idle c ∗ argsWhole m c)

theorem held_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(held m c ∗ emp) := by
  rw [Pipeline.unscopedRestP_none, unscopedRest0_eq]
  unfold G' linear held argsWhole
  iintro ⟨Hx, Hlev, Hcr, -, HR, Hp, Ht, Hi⟩
  ihave Hd := (duty_intro c) $$ [Hcr Hp Ht]
  · isplitl [Hcr]; · iexact Hcr
    isplitl [Hp] <;> iassumption
  imodintro
  isplitl
  · isplitl [HR]; · iexact HR
    isplitl [Hlev]; · iexact Hlev
    isplitl [Hd]; · iexact Hd
    isplitl [Hi] <;> iassumption
  · iempintro

theorem phi0_intro (c : Dev nD) :
    iprop(held m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ held mid scratch
  iintro ⟨⟨HR, Hlev, Hd, Hi, Hx⟩, -, Hs⟩
  isplitl [HR]; · iexact HR
  isplitl [Hlev]; · iexact Hlev
  isplitl [Hd]; · iexact Hd
  isplitl [Hi]; · iexact Hi
  isplitl [Hx] <;> iassumption

/-- What the launch hands out at the end beside the result. -/
def left (c : Dev nD) : sProp 𝕄 := iprop(unscopedSems0 c ∗ argsWhole m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left mid scratch
  rw [unscopedSems0_eq]
  iintro ⟨Hb, Hx0, Hi, Hx, Hs⟩
  isplitl [Hb Hx]
  · isplitl [Hb] <;> iassumption
  isplitl [Hx0 Hi]
  · iapply (ownSems0_iff (F := F) c).2
    isplitl [Hx0] <;> iassumption
  iexact Hs

theorem waits (c : Dev nD) : (levAts L lv : sProp 𝕄) ⊢ Pipeline.cellsWaits cfgs (dats m ρ) false 0 c :=
  Pipeline.cellsWaits_intro cfgs (dats m ρ) false 0 c fun w s t => by
    rcases t with ⟨_ | n, ht⟩
    · exact (mayWaits_B (F := F) c [0, 1, 2, 3, 4, 5, 6]).trans (Transfers.MayWaits.elim _)
    · show _ ⊢ MayWait _ _ _ 0
      rw [MayWait_zero]; iintro -; iempintro

/-- What is left tells that the semaphores outside the launch read zero and the arguments are unchanged. -/
theorem left_read (c : Dev nD) (s' : Phys nD τ sig (Elt F)) :
    iprop(left m c ∗ SI s') ⊢ |={Set.univ}=> iprop(⌜(∀ sm : SemLoc sig, sm.isScoped .tc = false → s'.mem.sem ((c : Thread nD τ), sm) = 0)
      ∧ s'.mem.mem ((c : Thread nD τ).loc main_arg0) = m ((c : Thread nD τ).loc main_arg0)
      ∧ s'.mem.mem ((c : Thread nD τ).loc main_arg1) = m ((c : Thread nD τ).loc main_arg1)⌝ ∗ SI s') := by
  have hr (b : Ref sig .tc) : iprop((((c : Thread nD τ).loc b) ↦{fullShare} m ((c : Thread nD τ).loc b)) ∗ SI s')
      ⊢ (iprop(⌜s'.mem.mem ((c : Thread nD τ).loc b) = m ((c : Thread nD τ).loc b)⌝ ∗ SI s') : sProp 𝕄) := by
    have h := pointsTo_read_all (Ix := Bool) (Name := ℕ) (U := UU) (Lvl := ℕ) (Finset.univ : Finset (Fin 1)) (fun _ => (c : Thread nD τ).loc b) (fun _ => m ((c : Thread nD τ).loc b)) s'
    rw [bigSep_univ_eq_bigSepL [0] (by decide) (by decide), bigSepL_singleton] at h
    refine h.trans ?_
    iintro ⟨%h, HSI⟩
    isplitr; · ipureintro; exact h 0 (Finset.mem_univ _)
    iexact HSI
  unfold left argsWhole
  iintro ⟨⟨Hu, H0, H1⟩, HSI⟩
  imod (Pipeline.unscopedSems0_read (X := unscopedSems0 c) (c := c) fupd_intro s') $$ [Hu HSI] with ⟨%hu, HSI⟩
  · isplitl [Hu] <;> iassumption
  ihave H := (hr main_arg0) $$ [H0 HSI]
  · isplitl [H0] <;> iassumption
  icases H with ⟨%h0, HSI⟩
  ihave H := (hr main_arg1) $$ [H1 HSI]
  · isplitl [H1] <;> iassumption
  icases H with ⟨%h1, HSI⟩
  imodintro
  isplitr; · ipureintro; exact ⟨hu, h0, h1⟩
  iexact HSI

/-! ## The run -/

theorem final_eq (c : Dev nD) : (dats m ρ 0 c).arrAt (0 : Fin 1) cfg0.N = accOut m c 7 :=
  (dats m ρ 0 c).arrAt_eq_of_after_last (0 : Fin 1) t0_0 (by decide +kernel) _ fun j => rfl

set_option maxRecDepth 40000 in
/-- From any memory with zero counters every execution of the eight devices terminates: the result holds what the body accumulates,
    the arguments are unchanged, and every counter reads zero. -/
theorem run_main : θ_run defs (onTc (τ := τ) (main (F := F))) (start0 m ρ) (fun r => (∀ c : Dev nD,
      r.2.mem ((c : Thread nD τ).loc main_v1) = accOut m c 7
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (show BI.own (embR (initOf exCells exToks, 1)) ⊢ (|==> bigSep Finset.univ (G m) : sProp 𝕄) from fund_ex m) $$ HX with HG
      imodintro
      isplitl [HP] <;> iassumption)
    (hglob := glob m)
    (hA := fun _ _ => rfl) (hpf := fun _ k => k.elim0)
    (X := held m) (Y := left m) (Z := fun _ => iprop(emp))
    (hX := held_intro m ρ) (hin := phi0_intro m ρ) (hout := phi1_exit m ρ)
    (QY := fun c s => (∀ sm : SemLoc sig, sm.isScoped .tc = false → s.sem ((c : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      iintro ⟨Hu, -, HSI⟩
      iapply (left_read m c s')
      isplitl [Hu] <;> iassumption)
    (hQ := fun _ h hs => ⟨fun c => ⟨((h c).1 0).trans (final_eq m ρ c), (h c).2.2.2⟩, sem_eq_zero hs fun c => (h c).2.2.1⟩)

end Cert.KernelIdeal.Exch

end
-- ==== Proof.Frames.lean ====
module

public import proofs.«01_k».proof.Proof.Launched
public import proofs.«01_k».proof.Defs
public import proofs.«01_k».proof.Proof.Gen.Kernel

@[expose] public section

noncomputable section

/-! The kernel as printed is its idealization's text, no operation rewritten, so the run of the one is the run of the other. -/

namespace Cert.Frames

open Idealize.ShloMosaic Idealize.SL.Sem

variable {F : FTy → Type} [FloatOps F]

set_option maxRecDepth 100000 in
set_option maxHeartbeats 8000000 in
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l
  obtain ⟨_ | n, h⟩ := l
  · funext ⟨t, s⟩; rfl
  · exact absurd h (Nat.not_lt.2 (Nat.le_add_left _ _))

theorem defs_eq : @Cert.Kernel.defs F _ Cert.Kernel.Gen.facts = @Cert.KernelIdeal.defs F _ Cert.KernelIdeal.Gen.facts :=
  congrArg (fun d => Pipeline.defs Cert.KernelIdeal.pcfgs d) (defs₀_eq (F := F))

theorem frame_Kernel : @Cert.quiescent_Kernel Cert.Kernel.Gen.facts := fun m g _ => by
  rw [defs_eq]
  exact (θ_run Cert.KernelIdeal.defs _ _).mono (fun _ h => ⟨fun c => (h.1 c).2, h.2⟩) (Cert.KernelIdeal.Exch.run_main (F := Bits) m g)

theorem frame_KernelIdeal : @Cert.quiescent_KernelIdeal Cert.KernelIdeal.Gen.facts := fun m g _ =>
  (θ_run Cert.KernelIdeal.defs _ _).mono (fun _ h => ⟨fun c => (h.1 c).2, h.2⟩) (Cert.KernelIdeal.Exch.run_main (F := Ideal) m g)

end Cert.Frames

end
-- ==== Proof.Value.lean ====
module

public import proofs.«01_k».proof.Proof.Output
public import Idealize.ShloMosaic.Lib.MatmulPlain
public import Idealize.ShloMosaic.Lib.StackMember
public import Idealize.ShloMosaic.Lib.Layout

@[expose] public section

noncomputable section

/-! At the exact values: a device's output is its band of the whole product. -/

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

open scoped BigOperators

variable (m : (ℓ : Loc nD τ sig) → Buf (Elt Ideal) ℓ)

/-! ## A device's output as a sum -/

/-- What slot `t` contributes to an entry of device `c`'s output: the row of the slot's partner by the partner's band of the column. -/
def term (c d : Dev nD) (r : Fin 1024) (b : Fin 4096) : EReal := ∑ k : Fin 1024, xAt m d (ix2 (row c r) k) * wAt m c (ix2 (row d k) b)

theorem prod_apply (c : Dev nD) (t : Fin 8) (nb : Fin 4) (r k : Fin 1024) :
    k0_pay19 (commV m c t) (wV m c t nb) (ix2 r k) = term m c (peer t c) r (col nb k) := by
  unfold k0_pay19 term
  refine (Ideal.matmul_plain_apply none _ _ _ r k).trans ?_
  rw [show (constant S1024x1024 .f32 0x00000000#32 : FVec Ideal S1024x1024 .f32) (ix2 r k) = (0 : EReal) from Ideal.ofBits_zero_f32, zero_add]
  refine Finset.sum_congr rfl fun l _ => ?_
  rw [show shapeCast S1024x1024 (commV m c t) shapeCasts_S1x1024x1024_S1024x1024 (ix2 r l) = commV m c t (ix3 0 r l) from shapeCast_1ab_ab_apply _ _ _ _]
  refine congrArg (xAt m (peer t c) (ix2 (row c r) l) * ·) ?_
  show shapeCast S1024x1024 (wV m c t nb) shapeCasts_S1x1024x1024_S1024x1024 (ix2 l k) = _
  exact shapeCast_1ab_ab_apply _ _ _ _

theorem step_apply (c : Dev nD) (t : Fin 8) (nb : Fin 4) (a : FVec Ideal S1024x1024 .f32) (r k : Fin 1024) :
    k0_pay25 (commV m c t) (wV m c t nb) a (ix2 r k) = a (ix2 r k) + term m c (peer t c) r (col nb k) := by
  rw [← prod_apply]
  show shapeCast S1024x1024 a shapeCasts_S1024x1024_S1024x1024 (ix2 r k) + _ = _
  rw [shapeCast_self]
  rfl

theorem accV_apply (c : Dev nD) (t : ℕ) (nb : Fin 4) (r k : Fin 1024) :
    accV m c t nb (ix2 r k) = ∑ s ∈ Finset.range (t + 1), term m c (peer (Fin.ofNat 8 s) c) r (col nb k) := by
  induction t with
  | zero => rw [Finset.sum_range_one]; exact prod_apply m c 0 nb r k
  | succ t ih => rw [Finset.sum_range_succ, ← ih]; exact step_apply m c _ nb _ r k

/-- All slots' contributions, taken over the devices. -/
def total (c : Dev nD) (r : Fin 1024) (b : Fin 4096) : EReal := ∑ d : Dev nD, term m c d r b

theorem accOut_apply (c : Dev nD) (r : Fin 1024) (b : Fin 4096) : accOut m c 7 (ix2 r b : S1024x4096.Idx) = total m c r b := by
  have hb : b = col (⟨b.val / 1024, Nat.div_lt_of_lt_mul b.isLt⟩ : Fin 4) ⟨b.val % 1024, Nat.mod_lt _ (by decide)⟩ :=
    Fin.ext (Nat.div_add_mod b.val 1024).symm
  have hs (b : Fin 4096) : ∑ s ∈ Finset.range 8, term m c (peer (Fin.ofNat 8 s) c) r b = total m c r b := by
    unfold total
    rw [Finset.sum_range, ← Equiv.sum_comp (around c) fun d => term m c d r b]
    exact Finset.sum_congr rfl fun s _ => by
      rw [show Fin.ofNat 8 s.val = s from Fin.ext (Nat.mod_eq_of_lt s.isLt)]; rfl
  rw [hb]
  exact (accOut_col m c 7 _ _ _).trans ((accV_apply m c 7 _ r _).trans (hs _))

/-! ## The whole product, band by band -/

/-- The position of row `k` of band `d` among all rows. -/
def bands : Dev nD × Fin 1024 ≃ Fin 8192 := finProdFinEquiv
theorem bands_apply (d : Dev nD) (k : Fin 1024) : bands (d, k) = row d k := Fin.ext (Nat.add_comm _ _)

theorem sum_bands (f : Fin 8192 → EReal) : ∑ l, f l = ∑ d : Dev nD, ∑ k : Fin 1024, f (row d k) := by
  rw [← Equiv.sum_comp bands, Fintype.sum_prod_type]
  exact Finset.sum_congr rfl fun d _ => Finset.sum_congr rfl fun k _ => by rw [bands_apply]

variable (X : (⟨2, ![8192, 8192]⟩ : Shape).Idx → EReal) (Y : (⟨2, ![8192, 4096]⟩ : Shape).Idx → EReal)

theorem block_cols (c : Dev nD) (r : Fin 8192) (k : Fin 1024) :
    Layout.block ⟨2, ![8192, 1024]⟩ ⟨2, ![8192, 8192]⟩ 1 8 c X (by decide) (ix2 r k) = X (ix2 r (row c k)) := by
  rw [Layout.block_apply]
  refine congrArg X ?_
  funext a; apply Fin.ext
  fin_cases a
  · rfl
  · show c.val * 1024 + k.val = 1024 * c.val + k.val; omega
theorem block_rows (c : Dev nD) (r : Fin 1024) (b : Fin 4096) :
    Layout.block ⟨2, ![1024, 4096]⟩ ⟨2, ![8192, 4096]⟩ 0 8 c Y (by decide) (ix2 r b) = Y (ix2 (row c r) b) := by
  rw [Layout.block_apply]
  refine congrArg Y ?_
  funext a; apply Fin.ext
  fin_cases a
  · show c.val * 1024 + r.val = 1024 * c.val + r.val; omega
  · rfl

/-- Where each device's `x` is its band of columns of `X` and its weights are `Y`, its output is its band of rows of the product. -/
theorem accOut_eq (hX : ∀ c : Dev nD, m ((c : Thread nD τ).loc main_arg0) = Layout.block ⟨2, ![8192, 1024]⟩ ⟨2, ![8192, 8192]⟩ 1 8 c X)
    (hY : ∀ c : Dev nD, m ((c : Thread nD τ).loc main_arg1) = Y) (c : Dev nD) :
    accOut m c 7 = Layout.block ⟨2, ![1024, 4096]⟩ ⟨2, ![8192, 4096]⟩ 0 8 c
      (Host.dotGeneral (F := Ideal) (φ₁ := .f32) (φ₂ := .f32) (DotDims.plain 8192 8192 4096) none X Y) := by
  funext i
  obtain ⟨r, b, rfl⟩ : ∃ (r : Fin 1024) (b : Fin 4096), i = (ix2 r b : S1024x4096.Idx) := ⟨i 0, i 1, by funext a; fin_cases a <;> rfl⟩
  refine (accOut_apply m c r b).trans (Eq.symm ?_)
  refine (block_rows _ c r b).trans ((StackMember.dotGeneral_plain_apply (φ₁ := .f32) (φ₂ := .f32) none X Y _ b).trans ?_)
  unfold total term
  rw [sum_bands]
  refine Finset.sum_congr rfl fun d _ => Finset.sum_congr rfl fun k _ => ?_
  have hx : xAt m d (ix2 (row c r) k) = X (ix2 (row c r) (row d k)) := by
    unfold xAt; rw [hX d]; exact block_cols X d _ k
  have hy : wAt m c (ix2 (row d k) b) = Y (ix2 (row d k) b) := by unfold wAt; rw [hY c]
  rw [hx, hy]

end Cert.KernelIdeal.Exch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ReferenceIdeal : @Cert.quiescent_ReferenceIdeal Cert.ReferenceIdeal.Gen.facts := fun m g _ =>
  (θ_run Cert.ReferenceIdeal.defs _ _).mono (fun _ h => ⟨fun c => (h c).2, sem_eq_zero_of_no_sems rfl _⟩)
    (Cert.ReferenceIdeal.Value.run (F := Ideal) m g)

/-- Each device's result is its band of rows of the reference's product. -/
theorem algebraic : @Cert.algebraic_KernelIdeal_ReferenceIdeal Cert.KernelIdeal.Gen.facts Cert.ReferenceIdeal.Gen.facts := fun m g m' g' _ h =>
  ⟨_, (θ_run Cert.KernelIdeal.defs _ _).mono
      (fun _ hr c => ⟨(hr.1 c).1.trans (Cert.KernelIdeal.Exch.accOut_eq m _ _ (fun d => (h d).1) (fun d => (h d).2) c), (hr.1 c).2⟩)
      (Cert.KernelIdeal.Exch.run_main (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  Cert.Frames.frame_Kernel, Cert.Frames.frame_KernelIdeal, frame_ReferenceIdeal, trivial, algebraic⟩

end Cert.Proof

end
